-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S50000x96 : Shape := ⟨2, ![50000, 96]⟩
abbrev S50000x3 : Shape := ⟨2, ![50000, 3]⟩
abbrev S2x500000 : Shape := ⟨2, ![2, 500000]⟩
abbrev S96x288 : Shape := ⟨2, ![96, 288]⟩
abbrev S288 : Shape := ⟨1, ![288]⟩
abbrev S3x32x6x16 : Shape := ⟨4, ![3, 32, 6, 16]⟩
abbrev S96x96 : Shape := ⟨2, ![96, 96]⟩
abbrev S96 : Shape := ⟨1, ![96]⟩
abbrev S_ : Shape := ⟨0, ![]⟩
abbrev S96x192 : Shape := ⟨2, ![96, 192]⟩
abbrev S192 : Shape := ⟨1, ![192]⟩

class Facts : Prop where
  bcast_S_S2x500000 : S_.BroadcastsInDim S2x500000 (![] : Fin 0 → Fin S2x500000.rank)
  bcast_S_S50000x96 : S_.BroadcastsInDim S50000x96 (![] : Fin 0 → Fin S50000x96.rank)
  slices_S96x288_S96x192_0_0 : S96x288.Slices ![0, 0] S96x192
  bcast_S_S96x192 : S_.BroadcastsInDim S96x192 (![] : Fin 0 → Fin S96x192.rank)
  slices_S288_S192_0 : S288.Slices ![0] S192
  bcast_S_S192 : S_.BroadcastsInDim S192 (![] : Fin 0 → Fin S192.rank)
  bcast_S_S3x32x6x16 : S_.BroadcastsInDim S3x32x6x16 (![] : Fin 0 → Fin S3x32x6x16.rank)

variable [Facts]

def fn_part1 {F : FTy → Type} [FloatOps F] (main_arg6 : FVec F S3x32x6x16 .f32) (main_v4 : IVec S2x500000 1) (main_v7 : IVec S50000x96 1) (main_v11 : IVec S96x192 1) (main_v15 : IVec S192 1) (main_v16 : FVec F S3x32x6x16 .f32) (main_v17 : FVec F S3x32x6x16 .f32) : IVec S2x500000 1 × IVec S50000x96 1 × IVec S96x192 1 × IVec S192 1 × IVec S3x32x6x16 1 × IVec S3x32x6x16 1 :=
  let main_v18 : IVec S3x32x6x16 1 := cmpf .olt main_v16 main_v17
  let main_v19 : FVec F S3x32x6x16 .f32 := Host.absf main_arg6
  let main_cst_4 : FVec F S_ .f32 := constant S_ .f32 0x7F800000#32
  let main_v20 : FVec F S3x32x6x16 .f32 := broadcastInDim S3x32x6x16 ![] bcast_S_S3x32x6x16 main_cst_4
  let main_v21 : IVec S3x32x6x16 1 := cmpf .olt main_v19 main_v20
  (main_v4, main_v7, main_v11, main_v15, main_v18, main_v21)

def fn {F : FTy → Type} [FloatOps F] (main_arg0 : FVec F S50000x96 .f32) (main_arg1 : FVec F S50000x3 .f32) (main_arg2 : IVec S2x500000 32) (main_arg3 : FVec F S96x288 .f32) (main_arg4 : FVec F S288 .f32) (main_arg5 : FVec F S3x32x6x16 .f32) (main_arg6 : FVec F S3x32x6x16 .f32) (main_arg7 : FVec F S3x32x6x16 .f32) (main_arg8 : FVec F S96x96 .f32) (main_arg9 : FVec F S96 .f32) : IVec S2x500000 1 × IVec S50000x96 1 × IVec S96x192 1 × IVec S192 1 × IVec S3x32x6x16 1 × IVec S3x32x6x16 1 :=
  let main_c : IVec S_ 32 := constantI S_ 32 0#32
  let main_v0 : IVec S2x500000 32 := broadcastInDim S2x500000 ![] bcast_S_S2x500000 main_c
  let main_v1 : IVec S2x500000 1 := cmpi .sge main_arg2 main_v0
  let main_c_0 : IVec S_ 32 := constantI S_ 32 50000#32
  let main_v2 : IVec S2x500000 32 := broadcastInDim S2x500000 ![] bcast_S_S2x500000 main_c_0
  let main_v3 : IVec S2x500000 1 := cmpi .slt main_arg2 main_v2
  let main_v4 : IVec S2x500000 1 := andi main_v1 main_v3
  let main_v5 : FVec F S50000x96 .f32 := Host.absf main_arg0
  let main_cst : FVec F S_ .f32 := constant S_ .f32 0x7F800000#32
  let main_v6 : FVec F S50000x96 .f32 := broadcastInDim S50000x96 ![] bcast_S_S50000x96 main_cst
  let main_v7 : IVec S50000x96 1 := cmpf .olt main_v5 main_v6
  let main_v8 : FVec F S96x192 .f32 := (extractStridedSlice S96x192 ![0, 0] · slices_S96x288_S96x192_0_0) main_arg3
  let main_v9 : FVec F S96x192 .f32 := Host.absf main_v8
  let main_cst_1 : FVec F S_ .f32 := constant S_ .f32 0x7F800000#32
  let main_v10 : FVec F S96x192 .f32 := broadcastInDim S96x192 ![] bcast_S_S96x192 main_cst_1
  let main_v11 : IVec S96x192 1 := cmpf .olt main_v9 main_v10
  let main_v12 : FVec F S192 .f32 := (extractStridedSlice S192 ![0] · slices_S288_S192_0) main_arg4
  let main_v13 : FVec F S192 .f32 := Host.absf main_v12
  let main_cst_2 : FVec F S_ .f32 := constant S_ .f32 0x7F800000#32
  let main_v14 : FVec F S192 .f32 := broadcastInDim S192 ![] bcast_S_S192 main_cst_2
  let main_v15 : IVec S192 1 := cmpf .olt main_v13 main_v14
  let main_v16 : FVec F S3x32x6x16 .f32 := Host.absf main_arg5
  let main_cst_3 : FVec F S_ .f32 := constant S_ .f32 0x7F800000#32
  let main_v17 : FVec F S3x32x6x16 .f32 := broadcastInDim S3x32x6x16 ![] bcast_S_S3x32x6x16 main_cst_3
  fn_part1 (F := F) main_arg6 main_v4 main_v7 main_v11 main_v15 main_v16 main_v17
-- ==== Kernel.lean ====
abbrev S50000x96 : Shape := ⟨2, ![50000, 96]⟩
abbrev S50000x3 : Shape := ⟨2, ![50000, 3]⟩
abbrev S2x500000 : Shape := ⟨2, ![2, 500000]⟩
abbrev S96x288 : Shape := ⟨2, ![96, 288]⟩
abbrev S288 : Shape := ⟨1, ![288]⟩
abbrev S3x32x6x16 : Shape := ⟨4, ![3, 32, 6, 16]⟩
abbrev S96x96 : Shape := ⟨2, ![96, 96]⟩
abbrev S96 : Shape := ⟨1, ![96]⟩
abbrev S1x500000 : Shape := ⟨2, ![1, 500000]⟩
abbrev S500000 : Shape := ⟨1, ![500000]⟩
abbrev S1x288 : Shape := ⟨2, ![1, 288]⟩
abbrev S50000x288 : Shape := ⟨2, ![50000, 288]⟩
abbrev S2000x96 : Shape := ⟨2, ![2000, 96]⟩
abbrev S2000x288 : Shape := ⟨2, ![2000, 288]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x3 : Shape := ⟨2, ![500000, 3]⟩
abbrev S500000x96 : Shape := ⟨2, ![500000, 96]⟩
abbrev S50000x192 : Shape := ⟨2, ![50000, 192]⟩
abbrev S500000x192 : Shape := ⟨2, ![500000, 192]⟩
abbrev S96x1 : Shape := ⟨2, ![96, 1]⟩
abbrev S6 : Shape := ⟨1, ![6]⟩
abbrev S1x6 : Shape := ⟨2, ![1, 6]⟩
abbrev S96x6 : Shape := ⟨2, ![96, 6]⟩
abbrev S500000x6 : Shape := ⟨2, ![500000, 6]⟩
abbrev S4000x3 : Shape := ⟨2, ![4000, 3]⟩
abbrev S4000x96 : Shape := ⟨2, ![4000, 96]⟩
abbrev S4000x6 : Shape := ⟨2, ![4000, 6]⟩
abbrev S4000x32 : Shape := ⟨2, ![4000, 32]⟩
abbrev S4000x1 : Shape := ⟨2, ![4000, 1]⟩
abbrev S32x96 : Shape := ⟨2, ![32, 96]⟩
abbrev S6x96 : Shape := ⟨2, ![6, 96]⟩
abbrev S50000x6 : Shape := ⟨2, ![50000, 6]⟩
abbrev S1x96 : Shape := ⟨2, ![1, 96]⟩
abbrev S2000x6 : Shape := ⟨2, ![2000, 6]⟩

abbrev nBuf : Space → Nat
  | .hbm => 154
  | .vmem => 31
  | .smem => 0
  | _ => 0

abbrev hbmTy0_0 (i : Nat) : BufTy := match i % 128 with
  | 0 => ⟨S50000x96, .f32⟩
  | 1 => ⟨S50000x3, .f32⟩
  | 2 => ⟨S2x500000, .i32⟩
  | 3 => ⟨S96x288, .f32⟩
  | 4 => ⟨S288, .f32⟩
  | 5 => ⟨S3x32x6x16, .f32⟩
  | 6 => ⟨S3x32x6x16, .f32⟩
  | 7 => ⟨S3x32x6x16, .f32⟩
  | 8 => ⟨S96x96, .f32⟩
  | 9 => ⟨S96, .f32⟩
  | 10 => ⟨S1x500000, .i32⟩
  | 11 => ⟨S500000, .i32⟩
  | 12 => ⟨S1x500000, .i32⟩
  | 13 => ⟨S500000, .i32⟩
  | 14 => ⟨S1x288, .f32⟩
  | 15 => ⟨S50000x288, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S1, .i32⟩
  | 25 => ⟨S_, .i32⟩
  | 26 => ⟨S500000x1, .i32⟩
  | 27 => ⟨S500000x1, .i1⟩
  | 28 => ⟨S1x1, .i32⟩
  | 29 => ⟨S500000x1, .i32⟩
  | 30 => ⟨S500000x1, .i1⟩
  | 31 => ⟨S500000x1, .i1⟩
  | 32 => ⟨S_, .i1⟩
  | 33 => ⟨S500000, .i1⟩
  | 34 => ⟨S500000x3, .f32⟩
  | 35 => ⟨S500000x3, .i1⟩
  | 36 => ⟨S_, .f32⟩
  | 37 => ⟨S500000x3, .f32⟩
  | 38 => ⟨S500000x3, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S1, .i32⟩
  | 48 => ⟨S_, .i32⟩
  | 49 => ⟨S500000x1, .i32⟩
  | 50 => ⟨S500000x1, .i1⟩
  | 51 => ⟨S1x1, .i32⟩
  | 52 => ⟨S500000x1, .i32⟩
  | 53 => ⟨S500000x1, .i1⟩
  | 54 => ⟨S500000x1, .i1⟩
  | 55 => ⟨S_, .i1⟩
  | 56 => ⟨S500000, .i1⟩
  | 57 => ⟨S500000x3, .f32⟩
  | 58 => ⟨S500000x3, .i1⟩
  | 59 => ⟨S_, .f32⟩
  | 60 => ⟨S500000x3, .f32⟩
  | 61 => ⟨S500000x3, .f32⟩
  | 62 => ⟨S500000x3, .f32⟩
  | 63 => ⟨S50000x96, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S1, .i32⟩
  | 73 => ⟨S_, .i32⟩
  | 74 => ⟨S500000x1, .i32⟩
  | 75 => ⟨S500000x1, .i1⟩
  | 76 => ⟨S1x1, .i32⟩
  | 77 => ⟨S500000x1, .i32⟩
  | 78 => ⟨S500000x1, .i1⟩
  | 79 => ⟨S500000x1, .i1⟩
  | 80 => ⟨S_, .i1⟩
  | 81 => ⟨S500000, .i1⟩
  | 82 => ⟨S500000x96, .f32⟩
  | 83 => ⟨S500000x96, .i1⟩
  | 84 => ⟨S_, .f32⟩
  | 85 => ⟨S500000x96, .f32⟩
  | 86 => ⟨S500000x96, .f32⟩
  | 87 => ⟨S50000x192, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S1, .i32⟩
  | 97 => ⟨S_, .i32⟩
  | 98 => ⟨S500000x1, .i32⟩
  | 99 => ⟨S500000x1, .i1⟩
  | 100 => ⟨S1x1, .i32⟩
  | 101 => ⟨S500000x1, .i32⟩
  | 102 => ⟨S500000x1, .i1⟩
  | 103 => ⟨S500000x1, .i1⟩
  | 104 => ⟨S_, .i1⟩
  | 105 => ⟨S500000, .i1⟩
  | 106 => ⟨S500000x192, .f32⟩
  | 107 => ⟨S500000x192, .i1⟩
  | 108 => ⟨S_, .f32⟩
  | 109 => ⟨S500000x192, .f32⟩
  | 110 => ⟨S500000x192, .f32⟩
  | 111 => ⟨S500000x96, .f32⟩
  | 112 => ⟨S500000x96, .f32⟩
  | 113 => ⟨S96x96, .f32⟩
  | 114 => ⟨S96x96, .f32⟩
  | 115 => ⟨S96x96, .f32⟩
  | 116 => ⟨S96, .i32⟩
  | 117 => ⟨S96x1, .i32⟩
  | 118 => ⟨S_, .i32⟩
  | 119 => ⟨S_, .i32⟩
  | 120 => ⟨S96x1, .i32⟩
  | 121 => ⟨S96x1, .i32⟩
  | 122 => ⟨S96x1, .i32⟩
  | 123 => ⟨S_, .i32⟩
  | 124 => ⟨S96x1, .i32⟩
  | 125 => ⟨S96x1, .i1⟩
  | 126 => ⟨S96x1, .i32⟩
  | 127 => ⟨S96x1, .i32⟩
  | _ => ⟨S50000x96, .f32⟩

abbrev hbmTy0_1 (i : Nat) : BufTy := match i % 128 with
  | 0 => ⟨S_, .i32⟩
  | 1 => ⟨S96x1, .i32⟩
  | 2 => ⟨S96x1, .i1⟩
  | 3 => ⟨S96x1, .i1⟩
  | 4 => ⟨S_, .i32⟩
  | 5 => ⟨S96x1, .i32⟩
  | 6 => ⟨S96x1, .i32⟩
  | 7 => ⟨S96x1, .i32⟩
  | 8 => ⟨S6, .i32⟩
  | 9 => ⟨S1x6, .i32⟩
  | 10 => ⟨S96x6, .i32⟩
  | 11 => ⟨S96x6, .i32⟩
  | 12 => ⟨S96x6, .i1⟩
  | 13 => ⟨S96x6, .f32⟩
  | 14 => ⟨S500000x96, .f32⟩
  | 15 => ⟨S500000x6, .f32⟩
  | 16 => ⟨S_, .f32⟩
  | 17 => ⟨S50000x96, .f32⟩
  | 18 => ⟨S500000x1, .i32⟩
  | 19 => ⟨S50000x96, .f32⟩
  | 20 => ⟨S_, .f32⟩
  | 21 => ⟨S50000x6, .f32⟩
  | 22 => ⟨S500000x1, .i32⟩
  | 23 => ⟨S50000x6, .f32⟩
  | 24 => ⟨S1x96, .f32⟩
  | 25 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S2000x96, .f32⟩
  | .local _ .vmem, ⟨1, _⟩ => ⟨S2000x96, .f32⟩
  | .local _ .vmem, ⟨2, _⟩ => ⟨S96x288, .f32⟩
  | .local _ .vmem, ⟨3, _⟩ => ⟨S1x288, .f32⟩
  | .local _ .vmem, ⟨4, _⟩ => ⟨S2000x288, .f32⟩
  | .local _ .vmem, ⟨5, _⟩ => ⟨S2000x288, .f32⟩
  | .local _ .vmem, ⟨6, _⟩ => ⟨S4000x3, .f32⟩
  | .local _ .vmem, ⟨7, _⟩ => ⟨S4000x3, .f32⟩
  | .local _ .vmem, ⟨8, _⟩ => ⟨S4000x96, .f32⟩
  | .local _ .vmem, ⟨9, _⟩ => ⟨S4000x96, .f32⟩
  | .local _ .vmem, ⟨10, _⟩ => ⟨S4000x96, .f32⟩
  | .local _ .vmem, ⟨11, _⟩ => ⟨S4000x96, .f32⟩
  | .local _ .vmem, ⟨12, _⟩ => ⟨S4000x96, .f32⟩
  | .local _ .vmem, ⟨13, _⟩ => ⟨S4000x96, .f32⟩
  | .local _ .vmem, ⟨14, _⟩ => ⟨S96x96, .f32⟩
  | .local _ .vmem, ⟨15, _⟩ => ⟨S96x96, .f32⟩
  | .local _ .vmem, ⟨16, _⟩ => ⟨S96x96, .f32⟩
  | .local _ .vmem, ⟨17, _⟩ => ⟨S96x6, .f32⟩
  | .local _ .vmem, ⟨18, _⟩ => ⟨S4000x96, .f32⟩
  | .local _ .vmem, ⟨19, _⟩ => ⟨S4000x96, .f32⟩
  | .local _ .vmem, ⟨20, _⟩ => ⟨S4000x6, .f32⟩
  | .local _ .vmem, ⟨21, _⟩ => ⟨S4000x6, .f32⟩
  | .local _ .vmem, ⟨22, _⟩ => ⟨S2000x96, .f32⟩
  | .local _ .vmem, ⟨23, _⟩ => ⟨S2000x96, .f32⟩
  | .local _ .vmem, ⟨24, _⟩ => ⟨S2000x6, .f32⟩
  | .local _ .vmem, ⟨25, _⟩ => ⟨S2000x6, .f32⟩
  | .local _ .vmem, ⟨26, _⟩ => ⟨S96x6, .f32⟩
  | .local _ .vmem, ⟨27, _⟩ => ⟨S96x96, .f32⟩
  | .local _ .vmem, ⟨28, _⟩ => ⟨S1x96, .f32⟩
  | .local _ .vmem, ⟨29, _⟩ => ⟨S2000x96, .f32⟩
  | .local _ .vmem, ⟨30, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v6 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v10 : Ref sig .tc := ⟨.hbm, 86, rfl⟩
abbrev main_v11 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v12 : Ref sig .tc := ⟨.hbm, 110, rfl⟩
abbrev main_v13 : Ref sig .tc := ⟨.hbm, 111, rfl⟩
abbrev main_v14 : Ref sig .tc := ⟨.hbm, 112, rfl⟩
abbrev main_v15 : Ref sig .tc := ⟨.hbm, 113, rfl⟩
abbrev main_v16 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_c : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_c : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_0 : Ref sig .tc := ⟨.hbm, 132, rfl⟩
abbrev main_call4_v12 : Ref sig .tc := ⟨.hbm, 133, rfl⟩
abbrev main_call4_v13 : Ref sig .tc := ⟨.hbm, 134, rfl⟩
abbrev main_v20 : Ref sig .tc := ⟨.hbm, 135, rfl⟩
abbrev main_v21 : Ref sig .tc := ⟨.hbm, 136, rfl⟩
abbrev main_v22 : Ref sig .tc := ⟨.hbm, 137, rfl⟩
abbrev main_v23 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_v27_0 : Ref sig .tc := ⟨.hbm, 142, rfl⟩
abbrev main_v27_1 : Ref sig .tc := ⟨.hbm, 143, rfl⟩
abbrev main_cst : Ref sig .tc := ⟨.hbm, 144, rfl⟩
abbrev main_v28 : Ref sig .tc := ⟨.hbm, 145, rfl⟩
abbrev main_v29 : Ref sig .tc := ⟨.hbm, 146, rfl⟩
abbrev main_v30 : Ref sig .tc := ⟨.hbm, 147, rfl⟩
abbrev main_cst_0 : Ref sig .tc := ⟨.hbm, 148, rfl⟩
abbrev main_v31 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_v35 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S96x6 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x96 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4000x6 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x6 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S50000x96 : Shape := ⟨2, ![50000, 96]⟩
abbrev S50000x3 : Shape := ⟨2, ![50000, 3]⟩
abbrev S2x500000 : Shape := ⟨2, ![2, 500000]⟩
abbrev S96x288 : Shape := ⟨2, ![96, 288]⟩
abbrev S288 : Shape := ⟨1, ![288]⟩
abbrev S3x32x6x16 : Shape := ⟨4, ![3, 32, 6, 16]⟩
abbrev S96x96 : Shape := ⟨2, ![96, 96]⟩
abbrev S96 : Shape := ⟨1, ![96]⟩
abbrev S50000x288 : Shape := ⟨2, ![50000, 288]⟩
abbrev S1x288 : Shape := ⟨2, ![1, 288]⟩
abbrev S50000x3x6x16 : Shape := ⟨4, ![50000, 3, 6, 16]⟩
abbrev S50000x1x6x16 : Shape := ⟨4, ![50000, 1, 6, 16]⟩
abbrev S50000x6x16 : Shape := ⟨3, ![50000, 6, 16]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x3 : Shape := ⟨2, ![500000, 3]⟩
abbrev S500000x6x16 : Shape := ⟨3, ![500000, 6, 16]⟩
abbrev S1x32x6x16 : Shape := ⟨4, ![1, 32, 6, 16]⟩
abbrev S32x6x16 : Shape := ⟨3, ![32, 6, 16]⟩
abbrev S500000x6 : Shape := ⟨2, ![500000, 6]⟩
abbrev S1x500000x1 : Shape := ⟨3, ![1, 500000, 1]⟩
abbrev S50000 : Shape := ⟨1, ![50000]⟩
abbrev S50000x1x1 : Shape := ⟨3, ![50000, 1, 1]⟩
abbrev S50000x500000x1 : Shape := ⟨3, ![50000, 500000, 1]⟩
abbrev S1x500000x6 : Shape := ⟨3, ![1, 500000, 6]⟩
abbrev S50000x500000x6 : Shape := ⟨3, ![50000, 500000, 6]⟩
abbrev S50000x6 : Shape := ⟨2, ![50000, 6]⟩
abbrev S500000x6x1 : Shape := ⟨3, ![500000, 6, 1]⟩
abbrev S1x96 : Shape := ⟨2, ![1, 96]⟩

abbrev nBuf : Space → Nat
  | .hbm => 284
  | .vmem => 0
  | .smem => 0
  | _ => 0

abbrev hbmTy0_0 (i : Nat) : BufTy := match i % 128 with
  | 0 => ⟨S50000x96, .f32⟩
  | 1 => ⟨S50000x3, .f32⟩
  | 2 => ⟨S2x500000, .i32⟩
  | 3 => ⟨S96x288, .f32⟩
  | 4 => ⟨S288, .f32⟩
  | 5 => ⟨S3x32x6x16, .f32⟩
  | 6 => ⟨S3x32x6x16, .f32⟩
  | 7 => ⟨S3x32x6x16, .f32⟩
  | 8 => ⟨S96x96, .f32⟩
  | 9 => ⟨S96, .f32⟩
  | 10 => ⟨S50000x288, .f32⟩
  | 11 => ⟨S1x288, .f32⟩
  | 12 => ⟨S50000x288, .f32⟩
  | 13 => ⟨S50000x288, .f32⟩
  | 14 => ⟨S50000x3x6x16, .f32⟩
  | 15 => ⟨S50000x1x6x16, .f32⟩
  | 16 => ⟨S50000x6x16, .f32⟩
  | 17 => ⟨S50000x1x6x16, .f32⟩
  | 18 => ⟨S50000x6x16, .f32⟩
  | 19 => ⟨S50000x1x6x16, .f32⟩
  | 20 => ⟨S50000x6x16, .f32⟩
  | 21 => ⟨S1x500000, .i32⟩
  | 22 => ⟨S500000, .i32⟩
  | 23 => ⟨S1x500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x3, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x3, .f32⟩
  | 43 => ⟨S500000x3, .f32⟩
  | 44 => ⟨S_, .f32⟩
  | 45 => ⟨S500000x3, .f32⟩
  | 46 => ⟨S500000x3, .f32⟩
  | 47 => ⟨S_, .f32⟩
  | 48 => ⟨S500000x3, .f32⟩
  | 49 => ⟨S500000x3, .f32⟩
  | 50 => ⟨S500000x3, .i32⟩
  | 51 => ⟨S_, .i32⟩
  | 52 => ⟨S_, .i32⟩
  | 53 => ⟨S_, .i32⟩
  | 54 => ⟨S500000x3, .i32⟩
  | 55 => ⟨S500000x3, .i32⟩
  | 56 => ⟨S_, .i32⟩
  | 57 => ⟨S500000x3, .i32⟩
  | 58 => ⟨S500000x3, .i32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x6x16, .f32⟩
  | 68 => ⟨S_, .f32⟩
  | 69 => ⟨S500000x6x16, .f32⟩
  | 70 => ⟨S500000x6x16, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x6x16, .f32⟩
  | 80 => ⟨S1x32x6x16, .f32⟩
  | 81 => ⟨S32x6x16, .f32⟩
  | 82 => ⟨S500000x1, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x6x16, .f32⟩
  | 93 => ⟨S1x32x6x16, .f32⟩
  | 94 => ⟨S32x6x16, .f32⟩
  | 95 => ⟨S500000x1, .i32⟩
  | 96 => ⟨S500000, .i32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x6x16, .f32⟩
  | 106 => ⟨S500000x6x16, .f32⟩
  | 107 => ⟨S1x32x6x16, .f32⟩
  | 108 => ⟨S32x6x16, .f32⟩
  | 109 => ⟨S500000x1, .i32⟩
  | 110 => ⟨S500000, .i32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x6x16, .f32⟩
  | 120 => ⟨S500000x6x16, .f32⟩
  | 121 => ⟨S1x32x6x16, .f32⟩
  | 122 => ⟨S32x6x16, .f32⟩
  | 123 => ⟨S500000x1, .i32⟩
  | 124 => ⟨S500000, .i32⟩
  | 125 => ⟨S_, .i32⟩
  | 126 => ⟨S500000, .i32⟩
  | 127 => ⟨S500000, .i1⟩
  | _ => ⟨S50000x96, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x6x16, .f32⟩
  | 6 => ⟨S1x32x6x16, .f32⟩
  | 7 => ⟨S32x6x16, .f32⟩
  | 8 => ⟨S500000x1, .i32⟩
  | 9 => ⟨S500000, .i32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x6x16, .f32⟩
  | 19 => ⟨S500000x6x16, .f32⟩
  | 20 => ⟨S1x32x6x16, .f32⟩
  | 21 => ⟨S32x6x16, .f32⟩
  | 22 => ⟨S500000x1, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x6x16, .f32⟩
  | 33 => ⟨S500000x6x16, .f32⟩
  | 34 => ⟨S1x32x6x16, .f32⟩
  | 35 => ⟨S32x6x16, .f32⟩
  | 36 => ⟨S500000x1, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x6x16, .f32⟩
  | 47 => ⟨S1x32x6x16, .f32⟩
  | 48 => ⟨S32x6x16, .f32⟩
  | 49 => ⟨S500000x1, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x6x16, .f32⟩
  | 60 => ⟨S500000x6x16, .f32⟩
  | 61 => ⟨S1x32x6x16, .f32⟩
  | 62 => ⟨S32x6x16, .f32⟩
  | 63 => ⟨S500000x1, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x6x16, .f32⟩
  | 74 => ⟨S500000x6x16, .f32⟩
  | 75 => ⟨S500000x6x16, .f32⟩
  | 76 => ⟨S_, .f32⟩
  | 77 => ⟨S500000x6, .f32⟩
  | 78 => ⟨S500000x6x16, .f32⟩
  | 79 => ⟨S_, .f32⟩
  | 80 => ⟨S500000x6, .f32⟩
  | 81 => ⟨S500000x6, .f32⟩
  | 82 => ⟨S500000x6x16, .f32⟩
  | 83 => ⟨S_, .f32⟩
  | 84 => ⟨S500000x6, .f32⟩
  | 85 => ⟨S500000x6, .f32⟩
  | 86 => ⟨S1x500000x1, .i32⟩
  | 87 => ⟨S50000, .i32⟩
  | 88 => ⟨S50000x1x1, .i32⟩
  | 89 => ⟨S50000x500000x1, .i32⟩
  | 90 => ⟨S50000x500000x1, .i32⟩
  | 91 => ⟨S50000x500000x1, .i1⟩
  | 92 => ⟨S1x500000x6, .f32⟩
  | 93 => ⟨S_, .f32⟩
  | 94 => ⟨S_, .f32⟩
  | 95 => ⟨S50000x500000x6, .i1⟩
  | 96 => ⟨S50000x500000x6, .f32⟩
  | 97 => ⟨S50000x500000x6, .f32⟩
  | 98 => ⟨S50000x500000x6, .f32⟩
  | 99 => ⟨S_, .f32⟩
  | 100 => ⟨S50000x6, .f32⟩
  | 101 => ⟨S50000x6, .f32⟩
  | 102 => ⟨S_, .f32⟩
  | 103 => ⟨S50000x6, .f32⟩
  | 104 => ⟨S50000x6, .i1⟩
  | 105 => ⟨S_, .f32⟩
  | 106 => ⟨S_, .f32⟩
  | 107 => ⟨S50000x6, .f32⟩
  | 108 => ⟨S50000x6, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x6, .f32⟩
  | 118 => ⟨S500000x6, .f32⟩
  | 119 => ⟨S500000x6, .f32⟩
  | 120 => ⟨S_, .f32⟩
  | 121 => ⟨S50000x6, .f32⟩
  | 122 => ⟨S500000x1, .i32⟩
  | 123 => ⟨S50000x6, .f32⟩
  | 124 => ⟨S_, .i32⟩
  | 125 => ⟨S500000, .i32⟩
  | 126 => ⟨S500000, .i1⟩
  | 127 => ⟨S_, .i32⟩
  | _ => ⟨S50000x96, .f32⟩

abbrev hbmTy0_2 (i : Nat) : BufTy := match i % 128 with
  | 0 => ⟨S500000, .i32⟩
  | 1 => ⟨S500000, .i32⟩
  | 2 => ⟨S500000, .i32⟩
  | 3 => ⟨S500000x1, .i32⟩
  | 4 => ⟨S500000x6, .f32⟩
  | 5 => ⟨S500000x6, .f32⟩
  | 6 => ⟨S500000x6x1, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x6x16, .f32⟩
  | 16 => ⟨S500000x6x16, .f32⟩
  | 17 => ⟨S500000x6x16, .f32⟩
  | 18 => ⟨S500000x6x16, .f32⟩
  | 19 => ⟨S_, .f32⟩
  | 20 => ⟨S50000x6x16, .f32⟩
  | 21 => ⟨S500000x1, .i32⟩
  | 22 => ⟨S50000x6x16, .f32⟩
  | 23 => ⟨S50000x96, .f32⟩
  | 24 => ⟨S50000x96, .f32⟩
  | 25 => ⟨S1x96, .f32⟩
  | 26 => ⟨S50000x96, .f32⟩
  | 27 => ⟨S50000x96, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_c_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_17 : Ref sig .tc := ⟨.hbm, 125, rfl⟩
abbrev main_v91 : Ref sig .tc := ⟨.hbm, 126, rfl⟩
abbrev main_v92 : Ref sig .tc := ⟨.hbm, 127, rfl⟩
abbrev main_c_18 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_19 : Ref sig .tc := ⟨.hbm, 138, rfl⟩
abbrev main_v102 : Ref sig .tc := ⟨.hbm, 139, rfl⟩
abbrev main_v103 : Ref sig .tc := ⟨.hbm, 140, rfl⟩
abbrev main_c_20 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_21 : Ref sig .tc := ⟨.hbm, 152, rfl⟩
abbrev main_v114 : Ref sig .tc := ⟨.hbm, 153, rfl⟩
abbrev main_v115 : Ref sig .tc := ⟨.hbm, 154, rfl⟩
abbrev main_c_22 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_23 : Ref sig .tc := ⟨.hbm, 166, rfl⟩
abbrev main_v126 : Ref sig .tc := ⟨.hbm, 167, rfl⟩
abbrev main_v127 : Ref sig .tc := ⟨.hbm, 168, rfl⟩
abbrev main_c_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_c_25 : Ref sig .tc := ⟨.hbm, 179, rfl⟩
abbrev main_v137 : Ref sig .tc := ⟨.hbm, 180, rfl⟩
abbrev main_v138 : Ref sig .tc := ⟨.hbm, 181, rfl⟩
abbrev main_c_26 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c_27 : Ref sig .tc := ⟨.hbm, 193, rfl⟩
abbrev main_v149 : Ref sig .tc := ⟨.hbm, 194, rfl⟩
abbrev main_v150 : Ref sig .tc := ⟨.hbm, 195, rfl⟩
abbrev main_c_28 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_29 : Ref sig .tc := ⟨.hbm, 204, rfl⟩
abbrev main_v158 : Ref sig .tc := ⟨.hbm, 205, rfl⟩
abbrev main_v159 : Ref sig .tc := ⟨.hbm, 206, rfl⟩
abbrev main_cst_30 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_cst_31 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_cst_32 : Ref sig .tc := ⟨.hbm, 221, rfl⟩
abbrev main_call1_v0 : Ref sig .tc := ⟨.hbm, 222, rfl⟩
abbrev main_call1_v1 : Ref sig .tc := ⟨.hbm, 223, rfl⟩
abbrev main_call1_v2 : Ref sig .tc := ⟨.hbm, 224, rfl⟩
abbrev main_call1_v3 : Ref sig .tc := ⟨.hbm, 225, rfl⟩
abbrev main_v172 : Ref sig .tc := ⟨.hbm, 226, rfl⟩
abbrev main_cst_33 : Ref sig .tc := ⟨.hbm, 227, rfl⟩
abbrev main_v173 : Ref sig .tc := ⟨.hbm, 228, rfl⟩
abbrev main_v174 : Ref sig .tc := ⟨.hbm, 229, rfl⟩
abbrev main_cst_34 : Ref sig .tc := ⟨.hbm, 230, rfl⟩
abbrev main_v175 : Ref sig .tc := ⟨.hbm, 231, rfl⟩
abbrev main_v176 : Ref sig .tc := ⟨.hbm, 232, rfl⟩
abbrev main_cst_35 : Ref sig .tc := ⟨.hbm, 233, rfl⟩
abbrev main_call2_v0 : Ref sig .tc := ⟨.hbm, 234, rfl⟩
abbrev main_call2_v1 : Ref sig .tc := ⟨.hbm, 235, rfl⟩
abbrev main_v177 : Ref sig .tc := ⟨.hbm, 236, rfl⟩
abbrev main_c_36 : Ref sig .tc := ⟨.hbm, 237, rfl⟩
abbrev main_v178 : Ref sig .tc := ⟨.hbm, 238, rfl⟩
abbrev main_v179 : Ref sig .tc := ⟨.hbm, 239, rfl⟩
abbrev main_c_37 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_cst_38 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_c_39 : Ref sig .tc := ⟨.hbm, 252, rfl⟩
abbrev main_v190 : Ref sig .tc := ⟨.hbm, 253, rfl⟩
abbrev main_v191 : Ref sig .tc := ⟨.hbm, 254, rfl⟩
abbrev main_c_40 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_c_41 : Ref sig .tc := ⟨.hbm, 263, rfl⟩
abbrev main_v199 : Ref sig .tc := ⟨.hbm, 264, rfl⟩
abbrev main_v200 : Ref sig .tc := ⟨.hbm, 265, rfl⟩
abbrev main_c_42 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_cst_43 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩

abbrev nD : Nat := 1
abbrev τ : Topo := Topo.v7x

variable {F : FTy → Type} [FloatOps F]
-- ==== Proof.Run.lean ====
/- The launch of the idealized kernel, keeping what it leaves in the result: every execution ends with the result array at
   the contents the last region leaves, and every argument array as it was at the start. -/
module

public import proofs.«01_k».proof.KernelIdeal
public import proofs.«01_k».proof.Proof.Gen.KernelIdeal.Frame
public import Idealize.ShloMosaic.PureOps.Ideal

@[expose] public section

set_option maxRecDepth 16384

noncomputable section

namespace Cert.KernelIdeal.Out

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- `θ_run_regions_kit_sems`'s implicit arguments are found by unifying its conclusion with this one
set_option backward.isDefEq.respectTransparency.types false in
/-- Every execution of the idealized kernel from zero counters terminates without a fault, with the result array at the
    contents after the last region and every argument array unchanged. -/
theorem run : θ_run defs (onTc (τ := τ) (main (F := Ideal))) ⟨m, fun _ => 0, ρ⟩ (fun r => ∀ c : Dev nD,
      r.2.mem ((c.tc : Thread nD τ).loc main_v35) = W14 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => fun c =>
      ⟨h c _ (mem_uc main_v35 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Out

end
-- ==== Proof.Math.lean ====
/- What the two programs are made of, at any extents: a row of a rank-3 array taken by an index word, rows added into a
   table by index words, a product with a one-hot row, a sum over groups of sixteen columns, and the equation that makes
   a softmax-weighted sum with the maximum taken off equal to one without it. Nothing here names a program. -/
module

public import Idealize.ShloMosaic.Lib.Routing.OpsPair
public import Idealize.ShloMosaic.Lib.Routing.Ops
public import Idealize.ShloMosaic.Lib.Pointwise
public import Idealize.ShloMosaic.PureOps.Ideal
public import Idealize.ShloMosaic.PureOps.Ideal.Laws

@[expose] public section

set_option maxRecDepth 16384

noncomputable section

namespace Cert.Seg

open Idealize.ShloMosaic

/-! ## Rows by index words -/

/-- A word holding a number below `2 ^ 31` reads, signed, as that number. -/
theorem toInt_word (n : Nat) (h : n < 2 ^ 31) : (BitVec.ofNat 32 n).toInt = (n : Int) :=
  StableHlo.Predicate.toInt_ofNat_small _ (by omega)

/-- Where the index word at `m` holds the number `n`, the rows taken of an `[N, C]` array by an `[M, 1]` array of words are, at
    `(m, c)`, the operand at `(n, c)`. -/
theorem gather_rows2 {α : Type} {N C M : Nat} (d : GatherDims ⟨2, ![N, C]⟩ ⟨2, ![M, 1]⟩ ⟨2, ![M, C]⟩) (hoff : d.offsetDims = [1])
    (hcoll : d.collapsedSliceDims = [0]) (hob : d.operandBatchingDims = []) (hsim : d.startIndexMap = [0])
    (hivd : d.indexVectorDim = 1) (x : (⟨2, ![N, C]⟩ : Shape).Idx → α) (idx : IVec ⟨2, ![M, 1]⟩ 32) (m : Fin M) (c : Fin C)
    (n : Fin N) (hn : idx (ix2 m (0 : Fin 1)) = BitVec.ofNat 32 n.val) (hN : N < 2 ^ 31) :
    Host.gather d x idx (ix2 m c) = x (ix2 n c) := by
  rw [ix2_eq_valueIdx, ix2_eq_valueIdx]
  rw [ix2_eq_valueIdx] at hn
  exact Routing.gather_row d hoff hcoll hob hsim hivd x idx m c n hn hN

/-- The dimension numbers of taking whole slices along axis 0 of an `[N, A, B]` array by an `[M, 1]` array of words. -/
abbrev rows3 (N A B M : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

/-- Where the index word at `m` holds the number `n`, the gathered array at `(m, a, b)` is the operand at `(n, a, b)`. -/
theorem gather_rows3 {α : Type} {N A B M : Nat}
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ 32) (m : Fin M) (a : Fin A) (b : Fin B) (n : Fin N)
    (hn : idx (ix2 m (0 : Fin 1)) = BitVec.ofNat 32 n.val) (hN : N < 2 ^ 31) :
    Host.gather (rows3 N A B M wf) x idx (ix3 m a b) = x (ix3 n a b) := by
  unfold Host.gather
  refine congrArg x (funext fun e => Fin.ext ?_)
  show (rows3 N A B M wf).start (ix3 m a b) idx e + (rows3 N A B M wf).batchCoord (ix3 m a b) e
      + (rows3 N A B M wf).offCoord (ix3 m a b) e = _
  rw [GatherDims.batchCoord_eq_zero _ _ _ List.not_mem_nil, Nat.add_zero]
  match e with
  | ⟨0, _⟩ =>
    show (rows3 N A B M wf).start (ix3 m a b) idx 0 + (rows3 N A B M wf).offCoord (ix3 m a b) 0 = n.val
    rw [GatherDims.offCoord_eq_zero _ _ _ (fun h => ((GatherDims.mem_sKept _ _).mp h).1 (List.mem_singleton.mpr rfl)), Nat.add_zero]
    unfold GatherDims.start
    rw [dif_pos (show (0 : Fin 3) ∈ (rows3 N A B M wf).startIndexMap from List.mem_singleton.mpr rfl)]
    have hsi : (rows3 N A B M wf).siIdx (ix3 m a b) ⟨List.idxOf (0 : Fin 3) (rows3 N A B M wf).startIndexMap,
        List.idxOf_lt_length_iff.2 (List.mem_singleton.mpr rfl)⟩ = ix2 m (0 : Fin 1) := by
      funext c; refine Fin.ext ?_
      match c with
      | ⟨0, _⟩ => rfl
      | ⟨1, _⟩ => rfl
    have hl := n.isLt
    rw [hsi, hn, toInt_word _ (by omega)]
    show min ((n.val : Int)).toNat (N - 1) = n.val
    omega
  | ⟨1, _⟩ =>
    show (rows3 N A B M wf).start (ix3 m a b) idx 1 + (rows3 N A B M wf).offCoord (ix3 m a b) 1 = a.val
    unfold GatherDims.start GatherDims.offCoord
    rw [dif_neg (show (1 : Fin 3) ∉ (rows3 N A B M wf).startIndexMap from (by decide : (1 : Fin 3) ∉ [(0 : Fin 3)])),
      dif_pos ((GatherDims.mem_sKept _ _).2 ⟨(by decide : (1 : Fin 3) ∉ [(0 : Fin 3)]), List.not_mem_nil⟩), Nat.zero_add]
    rfl
  | ⟨2, _⟩ =>
    show (rows3 N A B M wf).start (ix3 m a b) idx 2 + (rows3 N A B M wf).offCoord (ix3 m a b) 2 = b.val
    unfold GatherDims.start GatherDims.offCoord
    rw [dif_neg (show (2 : Fin 3) ∉ (rows3 N A B M wf).startIndexMap from (by decide : (2 : Fin 3) ∉ [(0 : Fin 3)])),
      dif_pos ((GatherDims.mem_sKept _ _).2 ⟨(by decide : (2 : Fin 3) ∉ [(0 : Fin 3)]), List.not_mem_nil⟩), Nat.zero_add]
    rfl

/-! ## Rows added into a table by index words -/

/-- The dimension numbers of adding the rows of an `[M, C]` array into an `[N, C]` one by an `[M, 1]` array of words. -/
abbrev into2 (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Where the index word at each `m` holds the number `f m`, the table after the adds at `(n, c)` is what it was plus the
    sum of the rows whose word holds `n`, at column `c`. -/
theorem scatter_into2 {N C M : Nat} (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ 32) (upd : FVec Ideal ⟨2, ![M, C]⟩ .f32)
    (f : Fin M → Fin N) (hf : ∀ m, idx (ix2 m (0 : Fin 1)) = BitVec.ofNat 32 (f m).val) (hN : N < 2 ^ 31)
    (n : Fin N) (c : Fin C) :
    Host.scatterAdd (into2 N C M wf) x idx upd (ix2 n c)
      = x (ix2 n c) + ∑ m ∈ Finset.univ.filter (fun m => f m = n), (upd (ix2 m c) : EReal) := by
  have key : ∀ (m : Fin M) (c' : Fin C),
      (into2 N C M wf).resultIdx? (ix2 m c') idx = some (ix2 n c) ↔ f m = n ∧ c' = c := by
    intro m c'
    have h0 : (into2 N C M wf).start (ix2 m c') idx 0 = ((f m).val : Int) := by
      unfold ScatterDims.start
      rw [dif_pos (show (0 : Fin 2) ∈ (into2 N C M wf).scatterDimsToOperandDims from List.mem_singleton.mpr rfl)]
      have hsi : (into2 N C M wf).siIdx (ix2 m c') ⟨List.idxOf (0 : Fin 2) (into2 N C M wf).scatterDimsToOperandDims,
          List.idxOf_lt_length_iff.2 (List.mem_singleton.mpr rfl)⟩ = ix2 m (0 : Fin 1) := by
        funext e; refine Fin.ext ?_
        match e with
        | ⟨0, _⟩ => rfl
        | ⟨1, _⟩ => rfl
      have hl := (f m).isLt
      rw [hsi, hf m, toInt_word _ (by omega)]
    have h1 : (into2 N C M wf).start (ix2 m c') idx 1 = 0 := by
      unfold ScatterDims.start
      rw [dif_neg (show (1 : Fin 2) ∉ (into2 N C M wf).scatterDimsToOperandDims from (by decide : (1 : Fin 2) ∉ [(0 : Fin 2)]))]
    have w0 : (into2 N C M wf).window (ix2 m c') 0 = 0 := rfl
    have w1 : (into2 N C M wf).window (ix2 m c') 1 = c'.val := rfl
    rw [ix2_eq_valueIdx n c, Routing.resultIdx?_ix2, h0, h1, w0, w1, Fin.ext_iff, Fin.ext_iff]
    omega
  show x (ix2 n c) + ∑ j ∈ Finset.univ.filter (fun j => (into2 N C M wf).resultIdx? j idx = some (ix2 n c)), upd j = _
  congr 1
  refine Finset.sum_nbij' (fun j => j 0) (fun m => ix2 m c) ?_ ?_ ?_ ?_ ?_
  · intro j hj
    rw [Finset.mem_filter, eq_ix2 j] at hj
    exact Finset.mem_filter.2 ⟨Finset.mem_univ _, ((key _ _).1 hj.2).1⟩
  · intro m hm
    exact Finset.mem_filter.2 ⟨Finset.mem_univ _, (key m c).2 ⟨(Finset.mem_filter.1 hm).2, rfl⟩⟩
  · intro j hj
    rw [Finset.mem_filter, eq_ix2 j] at hj
    rw [← ((key _ _).1 hj.2).2]
    exact (eq_ix2 j).symm
  · intro m _; rfl
  · intro j hj
    rw [Finset.mem_filter, eq_ix2 j] at hj
    rw [← ((key _ _).1 hj.2).2]
    exact congrArg upd (eq_ix2 j)

/-- The dimension numbers of adding the slices of an `[M, A, B]` array into an `[N, A, B]` one by an `[M, 1]` array of words. -/
abbrev into3 (N A B M : Nat) (wf : ScatterDims.WF ⟨3, ![N, A, B]⟩ ⟨2, ![M, 1]⟩ ⟨3, ![M, A, B]⟩ [1, 2] [0] [0] 1) :
    ScatterDims ⟨3, ![N, A, B]⟩ ⟨2, ![M, 1]⟩ ⟨3, ![M, A, B]⟩ where
  updateWindowDims := [1, 2]
  insertedWindowDims := [0]
  scatterDimsToOperandDims := [0]
  indexVectorDim := 1
  wf := wf

/-- `scatter_into2` for slices: the array after the adds at `(n, a, b)` is what it was plus the sum of the slices whose word
    holds `n`, at `(a, b)`. -/
theorem scatter_into3 {N A B M : Nat} (wf : ScatterDims.WF ⟨3, ![N, A, B]⟩ ⟨2, ![M, 1]⟩ ⟨3, ![M, A, B]⟩ [1, 2] [0] [0] 1)
    (x : FVec Ideal ⟨3, ![N, A, B]⟩ .f32) (idx : IVec ⟨2, ![M, 1]⟩ 32) (upd : FVec Ideal ⟨3, ![M, A, B]⟩ .f32)
    (f : Fin M → Fin N) (hf : ∀ m, idx (ix2 m (0 : Fin 1)) = BitVec.ofNat 32 (f m).val) (hN : N < 2 ^ 31)
    (n : Fin N) (a : Fin A) (b : Fin B) :
    Host.scatterAdd (into3 N A B M wf) x idx upd (ix3 n a b)
      = x (ix3 n a b) + ∑ m ∈ Finset.univ.filter (fun m => f m = n), (upd (ix3 m a b) : EReal) := by
  have key : ∀ (m : Fin M) (a' : Fin A) (b' : Fin B),
      (into3 N A B M wf).resultIdx? (ix3 m a' b') idx = some (ix3 n a b) ↔ f m = n ∧ a' = a ∧ b' = b := by
    intro m a' b'
    have h0 : (into3 N A B M wf).start (ix3 m a' b') idx 0 = ((f m).val : Int) := by
      unfold ScatterDims.start
      rw [dif_pos (show (0 : Fin 3) ∈ (into3 N A B M wf).scatterDimsToOperandDims from List.mem_singleton.mpr rfl)]
      have hsi : (into3 N A B M wf).siIdx (ix3 m a' b') ⟨List.idxOf (0 : Fin 3) (into3 N A B M wf).scatterDimsToOperandDims,
          List.idxOf_lt_length_iff.2 (List.mem_singleton.mpr rfl)⟩ = ix2 m (0 : Fin 1) := by
        funext e; refine Fin.ext ?_
        match e with
        | ⟨0, _⟩ => rfl
        | ⟨1, _⟩ => rfl
      have hl := (f m).isLt
      rw [hsi, hf m, toInt_word _ (by omega)]
    have h1 : (into3 N A B M wf).start (ix3 m a' b') idx 1 = 0 := by
      unfold ScatterDims.start
      rw [dif_neg (show (1 : Fin 3) ∉ (into3 N A B M wf).scatterDimsToOperandDims from (by decide : (1 : Fin 3) ∉ [(0 : Fin 3)]))]
    have h2 : (into3 N A B M wf).start (ix3 m a' b') idx 2 = 0 := by
      unfold ScatterDims.start
      rw [dif_neg (show (2 : Fin 3) ∉ (into3 N A B M wf).scatterDimsToOperandDims from (by decide : (2 : Fin 3) ∉ [(0 : Fin 3)]))]
    have w0 : (into3 N A B M wf).window (ix3 m a' b') 0 = 0 := rfl
    have w1 : (into3 N A B M wf).window (ix3 m a' b') 1 = a'.val := rfl
    have w2 : (into3 N A B M wf).window (ix3 m a' b') 2 = b'.val := rfl
    rw [Routing.resultIdx?_eq_some, Fin.ext_iff, Fin.ext_iff, Fin.ext_iff]
    constructor
    · intro h
      have e0 := h 0
      have e1 := h 1
      have e2 := h 2
      rw [h0, w0] at e0
      rw [h1, w1] at e1
      rw [h2, w2] at e2
      change _ = (n.val : Int) at e0
      change _ = (a.val : Int) at e1
      change _ = (b.val : Int) at e2
      omega
    · rintro ⟨e0, e1, e2⟩ e
      match e with
      | ⟨0, _⟩ => show (into3 N A B M wf).start (ix3 m a' b') idx 0 + _ = (n.val : Int); rw [h0]; show _ + (((into3 N A B M wf).window (ix3 m a' b') 0 : Nat) : Int) = _; rw [w0]; omega
      | ⟨1, _⟩ => show (into3 N A B M wf).start (ix3 m a' b') idx 1 + _ = (a.val : Int); rw [h1]; show _ + (((into3 N A B M wf).window (ix3 m a' b') 1 : Nat) : Int) = _; rw [w1]; omega
      | ⟨2, _⟩ => show (into3 N A B M wf).start (ix3 m a' b') idx 2 + _ = (b.val : Int); rw [h2]; show _ + (((into3 N A B M wf).window (ix3 m a' b') 2 : Nat) : Int) = _; rw [w2]; omega
  show x (ix3 n a b) + ∑ j ∈ Finset.univ.filter (fun j => (into3 N A B M wf).resultIdx? j idx = some (ix3 n a b)), upd j = _
  congr 1
  refine Finset.sum_nbij' (fun j => j 0) (fun m => ix3 m a b) ?_ ?_ ?_ ?_ ?_
  · intro j hj
    rw [Finset.mem_filter, eq_ix3 j] at hj
    exact Finset.mem_filter.2 ⟨Finset.mem_univ _, ((key _ _ _).1 hj.2).1⟩
  · intro m hm
    exact Finset.mem_filter.2 ⟨Finset.mem_univ _, (key m a b).2 ⟨(Finset.mem_filter.1 hm).2, rfl, rfl⟩⟩
  · intro j hj
    rw [Finset.mem_filter, eq_ix3 j] at hj
    rw [← ((key _ _ _).1 hj.2).2.1, ← ((key _ _ _).1 hj.2).2.2]
    exact (eq_ix3 j).symm
  · intro m _; rfl
  · intro j hj
    rw [Finset.mem_filter, eq_ix3 j] at hj
    rw [← ((key _ _ _).1 hj.2).2.1, ← ((key _ _ _).1 hj.2).2.2]
    exact congrArg upd (eq_ix3 j)

/-! ## Sums -/

/-- A sum of products with a one-hot row is the entry the row names; at an infinite entry too, since `0 * ∞ = 0`. -/
theorem sum_onehot {n : Nat} (r : Fin n) (f : Fin n → EReal) : ∑ k, (if k = r then (1 : EReal) else 0) * f k = f r := by
  simp [ite_mul]

/-- Column `d` of group `h`, of ninety-six columns in six groups of sixteen. -/
def fl (h : Fin 6) (d : Fin 16) : Fin 96 := ⟨16 * h.val + d.val, by omega⟩

/-- A sum over the ninety-six columns, group by group. -/
theorem sum_fl (f : Fin 96 → EReal) : ∑ j, f j = ∑ h : Fin 6, ∑ d : Fin 16, f (fl h d) := by
  rw [← Fintype.sum_prod_type' (f := fun h d => f (fl h d))]
  refine (Fintype.sum_equiv (finProdFinEquiv : Fin 6 × Fin 16 ≃ Fin 96) _ _ fun p => ?_).symm
  refine congrArg f (Fin.ext ?_)
  show 16 * p.1.val + p.2.val = p.2.val + 16 * p.1.val
  omega

/-- A sum over the ninety-six columns against the indicator of group `h` is the sum over that group. -/
theorem sum_group (f : Fin 96 → EReal) (h : Fin 6) :
    ∑ j : Fin 96, f j * (if j.val / 16 = h.val then (1 : EReal) else 0) = ∑ d : Fin 16, f (fl h d) := by
  rw [sum_fl]
  rw [Finset.sum_eq_single h]
  · refine Finset.sum_congr rfl fun d _ => ?_
    rw [if_pos (by show (16 * h.val + d.val) / 16 = h.val; omega), mul_one]
  · intro h' _ hne
    refine Finset.sum_eq_zero fun d _ => ?_
    rw [if_neg (by
      show ¬ (16 * h'.val + d.val) / 16 = h.val
      intro e; apply hne; apply Fin.ext; omega), mul_zero]
  · intro hh; exact absurd (Finset.mem_univ h) hh

/-- A sum over the six groups against the indicator of column `j`'s group is the entry of that group. -/
theorem sum_head (f : Fin 6 → EReal) (h : Fin 6) (d : Fin 16) :
    ∑ h' : Fin 6, f h' * (if (fl h d).val / 16 = h'.val then (1 : EReal) else 0) = f h := by
  rw [Finset.sum_eq_single h]
  · rw [if_pos (by show (16 * h.val + d.val) / 16 = h.val; omega), mul_one]
  · intro h' _ hne
    rw [if_neg (by
      show ¬ (16 * h.val + d.val) / 16 = h'.val
      intro e; apply hne; apply Fin.ext; omega), mul_zero]
  · intro hh; exact absurd (Finset.mem_univ h) hh

/-- A sum of real numbers is real. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A factor that is a real number from zero up comes out of a sum of extended reals. -/
theorem sum_mul_coe {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-! ## The bin of an offset -/

/-- The bin word of an offset `x`: `x` over the width of a bin, sixteen bins up, rounded to an integer toward zero and
    brought between 0 and 31. -/
def bw (x : EReal) : BitVec 32 :=
  IntOp.minsi 31#32 (IntOp.maxsi 0#32 (FloatOps.fptosi (F := Ideal) (φ := .f32) 32
    (Ideal.div x (Ideal.ofBits .f32 0x3CCCCCCD#32) + Ideal.ofBits .f32 0x41800000#32)))

/-- The bin word is a number below 32. -/
theorem bw_lt (x : EReal) : (bw x).toNat < 32 := by
  unfold bw
  generalize FloatOps.fptosi (F := Ideal) (φ := .f32) 32 _ = w
  unfold IntOp.minsi IntOp.maxsi
  have h0 : ((0#32 : BitVec 32)).toInt = 0 := rfl
  have h31 : ((31#32 : BitVec 32)).toInt = 31 := rfl
  have hw := BitVec.toInt_eq_toNat_cond w
  have hl := w.isLt
  split_ifs <;> simp_all [BitVec.slt, BitVec.sle] <;> omega

/-- The bin as a row number of a table of 32 rows. -/
def bn (x : EReal) : Fin 32 := ⟨(bw x).toNat, bw_lt x⟩

/-- The bin word holds the row number. -/
theorem bw_eq (x : EReal) : bw x = BitVec.ofNat 32 (bn x).val := by
  unfold bn; simp

/-- The comparison of the bin word with the number `k`, widened and made a float, is one at the bin's row and zero elsewhere. -/
theorem onehot_eq (x : EReal) (k : Fin 32) :
    FloatOps.sitofp (F := Ideal) .f32 (BitVec.setWidth 32 (IntOp.cmpi .eq (bw x) (BitVec.ofNat 32 k.val)))
      = if k = bn x then (1 : EReal) else 0 := by
  rw [bw_eq]
  have h : ∀ a b : Fin 32, (BitVec.setWidth 32 (IntOp.cmpi .eq (BitVec.ofNat 32 a.val) (BitVec.ofNat 32 b.val))).toInt
      = if b = a then 1 else 0 := by decide +kernel
  show (((BitVec.setWidth 32 (IntOp.cmpi .eq (BitVec.ofNat 32 (bn x).val) (BitVec.ofNat 32 k.val))).toInt : ℝ) : EReal) = _
  rw [h]
  split_ifs <;> simp

/-! ## The softmax-weighted sum -/

/-- The weights `exp (r m − μ)` over their sum, applied to any extended reals, are `exp (r m)` applied and the whole divided by
    the sum of `exp (r m)`: the shift `μ` cancels. Over no terms at all both are zero, whatever stands for the divisor. -/
theorem softmax_shift {ι : Type*} (s : Finset ι) (r : ι → ℝ) (μ : ℝ) (u : ι → EReal) (z : EReal)
    (hz : s.Nonempty → z = ∑ m ∈ s, Ideal.exp ((r m : ℝ) : EReal)) :
    ∑ m ∈ s, Ideal.div (Ideal.exp (((r m : ℝ) : EReal) - (μ : EReal))) (∑ m' ∈ s, Ideal.exp (((r m' : ℝ) : EReal) - (μ : EReal))) * u m
      = (∑ m ∈ s, Ideal.exp ((r m : ℝ) : EReal) * u m) * Ideal.div 1 z := by
  rcases s.eq_empty_or_nonempty with rfl | hs
  · simp
  rw [hz hs]
  have hpos : 0 < ∑ m ∈ s, Real.exp (r m) := Finset.sum_pos (fun m _ => Real.exp_pos _) hs
  have hc : 0 < Real.exp (-μ) := Real.exp_pos _
  have e1 : ∀ m, Ideal.exp (((r m : ℝ) : EReal) - (μ : EReal)) = ((Real.exp (r m) * Real.exp (-μ) : ℝ) : EReal) := by
    intro m
    rw [← EReal.coe_sub, Ideal.exp_coe, sub_eq_add_neg, Real.exp_add]
  simp only [e1, Ideal.exp_coe]
  rw [sum_coe, sum_coe, ← Finset.sum_mul, Ideal.div_coe hpos.ne', one_mul, ← sum_mul_coe _ _ _ (by positivity)]
  refine Finset.sum_congr rfl fun m _ => ?_
  rw [Ideal.div_coe (mul_pos hpos hc).ne', mul_right_comm _ (u m), ← EReal.coe_mul, ← EReal.coe_mul]
  congr 2
  field_simp

end Cert.Seg

end
-- ==== Proof.Payload.lean ====
/- What each of the kernel's three calls computes of its input blocks, at an index, over the extended reals. -/
module

public import proofs.«01_k».proof.Proof.Gen.KernelIdeal.Frame
public import proofs.«01_k».proof.Proof.Math
public import Idealize.ShloMosaic.Lib.Pipeline.Value

@[expose] public section

set_option maxRecDepth 16384

noncomputable section

namespace Cert.Seg

open Idealize.ShloMosaic

/-! ## One pair, from its rows and the three tables laid out in ninety-six rows -/

/-- Column `j` of the three bins' rows, summed: axis `a`'s rows are the 32 from `32 a`. -/
def tab (T : (⟨2, ![96, 96]⟩ : Shape).Idx → EReal) (D : Fin 3 → EReal) (j : Fin 96) : EReal :=
  T (ix2 (⟨(bn (D 0)).val, by omega⟩ : Fin 96) j) + T (ix2 (⟨32 + (bn (D 1)).val, by omega⟩ : Fin 96) j)
    + T (ix2 (⟨64 + (bn (D 2)).val, by omega⟩ : Fin 96) j)

/-- Column `j` of a pair's products: the scaled query times the key with its table row, plus the key times the query's. -/
def prods (TQ TK : (⟨2, ![96, 96]⟩ : Shape).Idx → EReal) (D : Fin 3 → EReal) (q k : Fin 96 → EReal) (j : Fin 96) : EReal :=
  q j * Ideal.ofBits .f32 0x3E800000#32 * (k j + tab TK D j) + k j * tab TQ D j

/-- A pair's logit at head `h`, exponentiated: the products summed against column `h` of `H`. -/
def expo (TQ TK : (⟨2, ![96, 96]⟩ : Shape).Idx → EReal) (H : (⟨2, ![96, 6]⟩ : Shape).Idx → EReal) (D : Fin 3 → EReal)
    (q k : Fin 96 → EReal) (h : Fin 6) : EReal :=
  Ideal.exp (∑ j, prods TQ TK D q k j * H (ix2 j h))

/-- A pair's contribution at column `j`: the weights spread over the columns by `H`, times the value with its table row. -/
def contrib (TQ TK TV : (⟨2, ![96, 96]⟩ : Shape).Idx → EReal) (H : (⟨2, ![96, 6]⟩ : Shape).Idx → EReal) (D : Fin 3 → EReal)
    (q k v : Fin 96 → EReal) (j : Fin 96) : EReal :=
  (∑ h, expo TQ TK H D q k h * H (ix2 j h)) * (v j + tab TV D j)

/-- A sum over 32 of a one-hot comparison with the bin of `x` is the entry at the bin. -/
theorem sum_bin (x : EReal) (f : Fin 32 → EReal) :
    ∑ k : Fin 32, FloatOps.sitofp (F := Ideal) .f32 (BitVec.setWidth 32 (IntOp.cmpi .eq (bw x) (BitVec.ofNat 32 k.val))) * f k
      = f (bn x) := by
  simp only [onehot_eq]
  exact sum_onehot _ f

end Cert.Seg

namespace Cert.KernelIdeal.Out

open Cert.KernelIdeal.Gen Cert.Seg
open Idealize.ShloMosaic

/-- The offset written as two zeros is zero at each axis. -/
theorem hz : (![0, 0] : Fin 2 → Nat) = fun _ => 0 := funext fun a => by fin_cases a <;> rfl

/-- The first call's block: a matrix product plus a row. -/
theorem pay0 (v0 : Vec Ideal S2000x96 .f32) (v1 : Vec Ideal S96x288 .f32) (v3 : Vec Ideal S1x288 .f32) (r : Fin 2000) (j : Fin 288) :
    k0_pay1 v0 v1 v3 (ix2 r j) = (∑ k : Fin 96, v0 (ix2 r k) * v1 (ix2 k j)) + v3 (ix2 (0 : Fin 1) j) := by
  pointwise [k0_pay1]

/-- The third call's block: the sums divided head by head, times the output matrix, plus its row. -/
theorem pay2 (v0 : Vec Ideal S2000x6 .f32) (v8 : Vec Ideal S96x6 .f32) (v12 : Vec Ideal S2000x96 .f32) (v15 : Vec Ideal S96x96 .f32)
    (v17 : Vec Ideal S1x96 .f32) (r : Fin 2000) (j : Fin 96) :
    k2_pay1 v0 v8 v12 v15 v17 (ix2 r j)
      = (∑ i : Fin 96, (v12 (ix2 r i) * ∑ h : Fin 6, Ideal.div 1 (if 0 < v0 (ix2 r h) then v0 (ix2 r h) else 1) * v8 (ix2 i h))
          * v15 (ix2 i j)) + v17 (ix2 (0 : Fin 1) j) := by
  pointwise [k2_pay1]

/-- The second call's bins. -/
theorem pay3 (v0 : Vec Ideal S4000x3 .f32) (r : Fin 4000) (a : Fin 3) : k1_pay3 v0 (ix2 r a) = bw (v0 (ix2 r a)) := by
  pointwise [k1_pay3]
  rfl

/-- The query table's row at a pair's bin along the first axis. -/
theorem pay5 (v0 : Vec Ideal S4000x3 .f32) (v20 : Vec Ideal S32x96 .f32) (r : Fin 4000) (j : Fin 96) :
    k1_pay5 v0 v20 (ix2 r j) = v20 (ix2 (bn (v0 (ix2 r (0 : Fin 3)))) j) := by
  pointwise [k1_pay5, k1_pay4, pay3]
  exact sum_bin _ fun k => v20 (ix2 k j)

/-- The key table's row at a pair's bin along the first axis. -/
theorem pay6 (v0 : Vec Ideal S4000x3 .f32) (v20 : Vec Ideal S32x96 .f32) (r : Fin 4000) (j : Fin 96) :
    k1_pay6 v0 v20 (ix2 r j) = v20 (ix2 (bn (v0 (ix2 r (0 : Fin 3)))) j) := by
  pointwise [k1_pay6, k1_pay4, pay3]
  exact sum_bin _ fun k => v20 (ix2 k j)

/-- The value table's row at a pair's bin along the first axis. -/
theorem pay7 (v0 : Vec Ideal S4000x3 .f32) (v20 : Vec Ideal S32x96 .f32) (r : Fin 4000) (j : Fin 96) :
    k1_pay7 v0 v20 (ix2 r j) = v20 (ix2 (bn (v0 (ix2 r (0 : Fin 3)))) j) := by
  pointwise [k1_pay7, k1_pay4, pay3]
  exact sum_bin _ fun k => v20 (ix2 k j)

/-- The second call's products, at an index. -/
theorem prods_apply (x0 : Vec Ideal S4000x3 .f32) (x1 x2 x3 : Vec Ideal S4000x96 .f32) (x4 x5 x6 : Vec Ideal S96x96 .f32)
    (x7 : Vec Ideal S96x6 .f32) (r : Fin 4000) (j : Fin 96) :
    k1_pay16 x0 x1 x2 x3 x4 x5 x6 x7 (ix2 r j)
      = prods x4 x5 (fun a => x0 (ix2 r a)) (fun j => x1 (ix2 r j)) (fun j => x2 (ix2 r j)) j := by
  unfold k1_pay16 k1_pay15 k1_pay14 k1_pay13
  pointwise [k1_pay12, k1_pay10, k1_pay9, k1_pay8, pay3, pay5, pay6]
  rw [sum_bin _ fun k => x5 (ix2 (⟨32 + k.val, by omega⟩ : Fin 96) j), sum_bin _ fun k => x5 (ix2 (⟨64 + k.val, by omega⟩ : Fin 96) j),
    sum_bin _ fun k => x4 (ix2 (⟨32 + k.val, by omega⟩ : Fin 96) j), sum_bin _ fun k => x4 (ix2 (⟨64 + k.val, by omega⟩ : Fin 96) j)]
  rfl

/-- The exponentials the second call stores, at an index. -/
theorem out9_apply (x0 : Vec Ideal S4000x3 .f32) (x1 x2 x3 : Vec Ideal S4000x96 .f32) (x4 x5 x6 : Vec Ideal S96x96 .f32)
    (x7 : Vec Ideal S96x6 .f32) (r : Fin 4000) (h : Fin 6) :
    out1_9 x0 x1 x2 x3 x4 x5 x6 x7 (ix2 r h)
      = expo x4 x5 x7 (fun a => x0 (ix2 r a)) (fun j => x1 (ix2 r j)) (fun j => x2 (ix2 r j)) h := by
  unfold out1_9
  rw [View.canon_unit_zero hz]
  pointwise [k1_pay1, prods_apply]
  rfl

/-- The contributions the second call stores, at an index. -/
theorem out8_apply (x0 : Vec Ideal S4000x3 .f32) (x1 x2 x3 : Vec Ideal S4000x96 .f32) (x4 x5 x6 : Vec Ideal S96x96 .f32)
    (x7 : Vec Ideal S96x6 .f32) (r : Fin 4000) (j : Fin 96) :
    out1_8 x0 x1 x2 x3 x4 x5 x6 x7 (ix2 r j)
      = contrib x4 x5 x6 x7 (fun a => x0 (ix2 r a)) (fun j => x1 (ix2 r j)) (fun j => x2 (ix2 r j)) (fun j => x3 (ix2 r j)) j := by
  unfold out1_8 k1_pay15 k1_pay14 k1_pay13
  rw [View.canon_unit_zero hz]
  pointwise [k1_pay2, k1_pay1, k1_pay11, k1_pay10, k1_pay8, pay3, pay7, prods_apply]
  rw [sum_bin _ fun k => x6 (ix2 (⟨32 + k.val, by omega⟩ : Fin 96) j), sum_bin _ fun k => x6 (ix2 (⟨64 + k.val, by omega⟩ : Fin 96) j)]
  rfl

end Cert.KernelIdeal.Out

end
-- ==== Proof.Regions.lean ====
/- The arrays the kernel's three calls leave, at an index, from the contents they start at. -/
module

public import proofs.«01_k».proof.Proof.Payload
public import Idealize.ShloMosaic.Lib.Pipeline.ValueKit.Point

@[expose] public section

set_option maxRecDepth 16384

noncomputable section

namespace Cert.KernelIdeal.Out

open Cert.KernelIdeal.Gen Cert.Seg
open Idealize.ShloMosaic Idealize.ShloMosaic.TcCoe
open Idealize.ShloMosaic.Pipeline (Dat Cfg Window BodyObligation cellOf)

variable (V : (c : Dev nD) → (b : Ref sig .tc) → Buf (Elt Ideal) ((c : Thread nD τ).loc b))

/-- Where the first call's blocks lie. -/
theorem idx0 : ∀ t : Fin cfg0.N, win0_0.index t = ![t.val, 0] ∧ win0_1.index t = ![0, 0] ∧ win0_2.index t = ![0, 0]
    ∧ win0_3.index t = ![t.val, 0] := by decide +kernel

/-- The first call's product, at an index. -/
def lin (x : S50000x96.Idx → EReal) (w : S96x288.Idx → EReal) (b : S1x288.Idx → EReal) : S50000x288.Idx → EReal := fun i =>
  (∑ k : Fin 96, x (ix2 (i 0) k) * w (ix2 k (i 1))) + b (ix2 (0 : Fin 1) (i 1))

/-- A block of the first call's output is that block of the product. -/
theorem blk0 (c : Dev nD) (t : Fin cfg0.N) (z : S2000x288.Idx) (y : S50000x288.Idx)
    (h0 : (y 0).val = t.val * 2000 + (z 0).val) (h1 : (y 1).val = (z 1).val) :
    k0_pay1 (iblk0 V c 0 t) (iblk0 V c 1 t) (iblk0 V c 2 t) z = lin (V c main_arg0) (V c main_arg3) (V c main_v4) y := by
  obtain ⟨r, j, rfl⟩ : ∃ (r : Fin 2000) (j : Fin 288), z = ix2 r j := ⟨z 0, z 1, eq_ix2 z⟩
  obtain ⟨n, j', rfl⟩ : ∃ (n : Fin 50000) (j' : Fin 288), y = ix2 n j' := ⟨y 0, y 1, eq_ix2 y⟩
  obtain rfl : j' = j := Fin.ext h1
  replace h0 : n.val = t.val * 2000 + r.val := h0
  rw [pay0]
  unfold lin
  congr 1
  · refine Finset.sum_congr rfl fun k _ => ?_
    congr 1 <;> blk_ext [iblk0, idx0 t]
  · blk_ext [iblk0, idx0 t]

/-- The first call's output array. -/
theorem final0 (c : Dev nD) : (dat0 V c).arrAt 3 cfg0.N = lin (V c main_arg0) (V c main_arg3) (V c main_v4) := by
  refine (dat0 V c).arrAt_eq_of_covers 3 _ (by decide +kernel) fun t hf y => ?_
  blk_simp
  rw [after0_3]
  frame_out
  refine blk0 V c t y _ ?_ ?_ <;> blk_simp [idx0 t] <;> simp

/-! ## The pairs -/

/-- Where the second call's blocks lie. -/
theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0]
    ∧ win1_7.index t = ![0, 0] ∧ win1_8.index t = ![t.val, 0] ∧ win1_9.index t = ![t.val, 0] := by decide +kernel

/-- Every pair's exponentiated logits. -/
def expos (d : S500000x3.Idx → EReal) (q k : S500000x96.Idx → EReal) (tq tk : S96x96.Idx → EReal) (H : S96x6.Idx → EReal) :
    S500000x6.Idx → EReal := fun i =>
  expo tq tk H (fun a => d (ix2 (i 0) a)) (fun j => q (ix2 (i 0) j)) (fun j => k (ix2 (i 0) j)) (i 1)

/-- Every pair's contribution. -/
def contribs (d : S500000x3.Idx → EReal) (q k v : S500000x96.Idx → EReal) (tq tk tv : S96x96.Idx → EReal)
    (H : S96x6.Idx → EReal) : S500000x96.Idx → EReal := fun i =>
  contrib tq tk tv H (fun a => d (ix2 (i 0) a)) (fun j => q (ix2 (i 0) j)) (fun j => k (ix2 (i 0) j))
    (fun j => v (ix2 (i 0) j)) (i 1)

/-- The rows and the tables the second call's point `t` reads. -/
theorem reads1 (c : Dev nD) (t : Fin cfg1.N) (r : Fin 4000) (p : Fin 500000) (hp : p.val = t.val * 4000 + r.val) :
    (∀ a : Fin 3, iblk1 V c 0 t (ix2 r a) = V c main_v8 (ix2 p a))
    ∧ (∀ j : Fin 96, iblk1 V c 1 t (ix2 r j) = V c main_v10 (ix2 p j))
    ∧ (∀ j : Fin 96, iblk1 V c 2 t (ix2 r j) = V c main_v13 (ix2 p j))
    ∧ (∀ j : Fin 96, iblk1 V c 3 t (ix2 r j) = V c main_v14 (ix2 p j)) := by
  refine ⟨fun a => ?_, fun a => ?_, fun a => ?_, fun a => ?_⟩ <;> blk_ext [iblk1, idx1 t]

/-- The query table's block is the whole table at every step. -/
theorem whole1_4 (c : Dev nD) (t : Fin cfg1.N) : (iblk1 V c 4 t : S96x96.Idx → EReal) = V c main_v15 := by
  funext z; rw [eq_ix2 z]; blk_ext [iblk1, idx1 t]
/-- The key table's block is the whole table at every step. -/
theorem whole1_5 (c : Dev nD) (t : Fin cfg1.N) : (iblk1 V c 5 t : S96x96.Idx → EReal) = V c main_v16 := by
  funext z; rw [eq_ix2 z]; blk_ext [iblk1, idx1 t]
/-- The value table's block is the whole table at every step. -/
theorem whole1_6 (c : Dev nD) (t : Fin cfg1.N) : (iblk1 V c 6 t : S96x96.Idx → EReal) = V c main_v17 := by
  funext z; rw [eq_ix2 z]; blk_ext [iblk1, idx1 t]
/-- The heads' indicator's block is the whole array at every step. -/
theorem whole1_7 (c : Dev nD) (t : Fin cfg1.N) : (iblk1 V c 7 t : S96x6.Idx → EReal) = V c main_v26 := by
  funext z; rw [eq_ix2 z]; blk_ext [iblk1, idx1 t]

/-- A block of the second call's exponentials is that block of the pairs'. -/
theorem blk1_9 (c : Dev nD) (t : Fin cfg1.N) (z : S4000x6.Idx) (y : S500000x6.Idx)
    (h0 : (y 0).val = t.val * 4000 + (z 0).val) (h1 : (y 1).val = (z 1).val) :
    out1_9 (iblk1 V c 0 t) (iblk1 V c 1 t) (iblk1 V c 2 t) (iblk1 V c 3 t) (iblk1 V c 4 t) (iblk1 V c 5 t) (iblk1 V c 6 t)
        (iblk1 V c 7 t) z
      = expos (V c main_v8) (V c main_v10) (V c main_v13) (V c main_v15) (V c main_v16) (V c main_v26) y := by
  obtain ⟨r, h, rfl⟩ : ∃ (r : Fin 4000) (h : Fin 6), z = ix2 r h := ⟨z 0, z 1, eq_ix2 z⟩
  obtain ⟨p, h', rfl⟩ : ∃ (p : Fin 500000) (h' : Fin 6), y = ix2 p h' := ⟨y 0, y 1, eq_ix2 y⟩
  obtain rfl : h' = h := Fin.ext h1
  obtain ⟨e0, e1, e2, e3⟩ := reads1 V c t r p h0
  rw [out9_apply, whole1_4, whole1_5, whole1_7]
  simp only [e0, e1, e2]
  rfl

/-- A block of the second call's contributions is that block of the pairs'. -/
theorem blk1_8 (c : Dev nD) (t : Fin cfg1.N) (z : S4000x96.Idx) (y : S500000x96.Idx)
    (h0 : (y 0).val = t.val * 4000 + (z 0).val) (h1 : (y 1).val = (z 1).val) :
    out1_8 (iblk1 V c 0 t) (iblk1 V c 1 t) (iblk1 V c 2 t) (iblk1 V c 3 t) (iblk1 V c 4 t) (iblk1 V c 5 t) (iblk1 V c 6 t)
        (iblk1 V c 7 t) z
      = contribs (V c main_v8) (V c main_v10) (V c main_v13) (V c main_v14) (V c main_v15) (V c main_v16) (V c main_v17)
        (V c main_v26) y := by
  obtain ⟨r, h, rfl⟩ : ∃ (r : Fin 4000) (h : Fin 96), z = ix2 r h := ⟨z 0, z 1, eq_ix2 z⟩
  obtain ⟨p, h', rfl⟩ : ∃ (p : Fin 500000) (h' : Fin 96), y = ix2 p h' := ⟨y 0, y 1, eq_ix2 y⟩
  obtain rfl : h' = h := Fin.ext h1
  obtain ⟨e0, e1, e2, e3⟩ := reads1 V c t r p h0
  rw [out8_apply, whole1_4, whole1_5, whole1_6, whole1_7]
  simp only [e0, e1, e2, e3]
  rfl

/-- The second call's array of exponentiated logits. -/
theorem final1_9 (c : Dev nD) : (dat1 V c).arrAt 9 cfg1.N
    = expos (V c main_v8) (V c main_v10) (V c main_v13) (V c main_v15) (V c main_v16) (V c main_v26) := by
  refine (dat1 V c).arrAt_eq_of_covers 9 _ (by decide +kernel) fun t hf y => ?_
  blk_simp
  rw [after1_9]
  refine blk1_9 V c t y _ ?_ ?_ <;> blk_simp [idx1 t] <;> simp

/-- The second call's array of contributions. -/
theorem final1_8 (c : Dev nD) : (dat1 V c).arrAt 8 cfg1.N
    = contribs (V c main_v8) (V c main_v10) (V c main_v13) (V c main_v14) (V c main_v15) (V c main_v16) (V c main_v17)
      (V c main_v26) := by
  refine (dat1 V c).arrAt_eq_of_covers 8 _ (by decide +kernel) fun t hf y => ?_
  blk_simp
  rw [after1_8]
  refine blk1_8 V c t y _ ?_ ?_ <;> blk_simp [idx1 t] <;> simp

/-! ## The rows of the output -/

/-- Where the third call's blocks lie. -/
theorem idx2 : ∀ t : Fin cfg2.N, win2_0.index t = ![t.val, 0] ∧ win2_1.index t = ![t.val, 0] ∧ win2_2.index t = ![0, 0]
    ∧ win2_3.index t = ![0, 0] ∧ win2_4.index t = ![0, 0] ∧ win2_5.index t = ![t.val, 0] := by decide +kernel

/-- The third call's projection: each head's columns times the reciprocal of its denominator, a matrix product, a row. -/
def proj (agg : S50000x96.Idx → EReal) (den : S50000x6.Idx → EReal) (H : S96x6.Idx → EReal) (w : S96x96.Idx → EReal)
    (b : S1x96.Idx → EReal) : S50000x96.Idx → EReal := fun y =>
  (∑ i : Fin 96, (agg (ix2 (y 0) i) * ∑ h : Fin 6, Ideal.div 1 (if 0 < den (ix2 (y 0) h) then den (ix2 (y 0) h) else 1) * H (ix2 i h))
      * w (ix2 i (y 1))) + b (ix2 (0 : Fin 1) (y 1))

/-- A block of the third call's output is that block of the projection. -/
theorem blk2 (c : Dev nD) (t : Fin cfg2.N) (z : S2000x96.Idx) (y : S50000x96.Idx)
    (h0 : (y 0).val = t.val * 2000 + (z 0).val) (h1 : (y 1).val = (z 1).val) :
    k2_pay1 (iblk2 V c 1 t) (iblk2 V c 2 t) (iblk2 V c 0 t) (iblk2 V c 3 t) (iblk2 V c 4 t) z
      = proj (V c main_v30) (V c main_v33) (V c main_v26) (V c main_arg8) (V c main_v34) y := by
  obtain ⟨r, j, rfl⟩ : ∃ (r : Fin 2000) (j : Fin 96), z = ix2 r j := ⟨z 0, z 1, eq_ix2 z⟩
  obtain ⟨n, j', rfl⟩ : ∃ (n : Fin 50000) (j' : Fin 96), y = ix2 n j' := ⟨y 0, y 1, eq_ix2 y⟩
  obtain rfl : j' = j := Fin.ext h1
  replace h0 : n.val = t.val * 2000 + r.val := h0
  rw [pay2]
  have hd : ∀ h : Fin 6, iblk2 V c 1 t (ix2 r h) = V c main_v33 (ix2 n h) := fun h => by blk_ext [iblk2, idx2 t]
  have hH : ∀ (i : Fin 96) (h : Fin 6), iblk2 V c 2 t (ix2 i h) = V c main_v26 (ix2 i h) := fun i h => by blk_ext [iblk2, idx2 t]
  have ha : ∀ i : Fin 96, iblk2 V c 0 t (ix2 r i) = V c main_v30 (ix2 n i) := fun h => by blk_ext [iblk2, idx2 t]
  have hw : ∀ i : Fin 96, iblk2 V c 3 t (ix2 i j') = V c main_arg8 (ix2 i j') := fun h => by blk_ext [iblk2, idx2 t]
  have hb : iblk2 V c 4 t (ix2 (0 : Fin 1) j') = V c main_v34 (ix2 (0 : Fin 1) j') := by blk_ext [iblk2, idx2 t]
  unfold proj
  simp only [hd, hH, ha, hw, hb]
  rfl

/-- The third call's output array. -/
theorem final2 (c : Dev nD) : (dat2 V c).arrAt 5 cfg2.N
    = proj (V c main_v30) (V c main_v33) (V c main_v26) (V c main_arg8) (V c main_v34) := by
  refine (dat2 V c).arrAt_eq_of_covers 5 _ (by decide +kernel) fun t hf y => ?_
  blk_simp
  rw [after2_5]
  frame_out
  refine blk2 V c t y _ ?_ ?_ <;> blk_simp [idx2 t] <;> simp

end Cert.KernelIdeal.Out

end
-- ==== Proof.Takes.lean ====
/- The kernel's host stretches, read at an index: the rows its four takes fetch at words that name a row. -/
module

public import proofs.«01_k».proof.Proof.Regions
public import Idealize.ShloMosaic.Lib.ReduceAll
public import Idealize.ShloMosaic.Lib.Routing.OpsPair
public import Idealize.ShloMosaic.Lib.StableHlo.RunRead

@[expose] public section

set_option maxRecDepth 16384

noncomputable section

namespace Cert.KernelIdeal.Out

open Cert.KernelIdeal.Gen Cert.Seg
open Idealize.ShloMosaic Idealize.ShloMosaic.TcCoe

/-- The column of words a take reads at: a negative word moved up by the number of rows. -/
def colOf (i : IVec S500000 32) : IVec S500000x1 32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 50000#32))) i)

/-- Whether a take's word names a row. -/
def okOf (i : IVec S500000 32) : IVec S500000 1 :=
  Host.reduce IntOp.andi
    (andi (cmpi .sge (colOf i) (broadcastInDim S500000x1 ![] bcast_S_S500000x1 (constantI S_ 32 0#32)))
      (cmpi .sle (colOf i) (broadcastInDim S500000x1 ![0, 1] bcast_S1x1_S500000x1_0_1
        (broadcastInDim S1x1 ![1] bcast_S1_S1x1_1 (constantI S1 32 49999#32)))))
    (constantI S_ 1 1#1) reducesTo_S500000x1_S500000_d1 h_S_

/-- A take of rows of 3: the row each word names, not-a-number where it names none. -/
def taken3 (x : FVec Ideal S50000x3 .f32) (i : IVec S500000 32) : FVec Ideal S500000x3 .f32 :=
  select (broadcastInDim S500000x3 ![0] bcast_S500000_S500000x3_0 (okOf i))
    (Host.gather gather_S50000x3_S500000x1_S500000x3_1_0_n_n_0_1_13 x (colOf i))
    (broadcastInDim S500000x3 ![] bcast_S_S500000x3 (constant S_ .f32 0x7FC00000#32))

/-- A take of rows of 96: the row each word names, not-a-number where it names none. -/
def taken96 (x : FVec Ideal S50000x96 .f32) (i : IVec S500000 32) : FVec Ideal S500000x96 .f32 :=
  select (broadcastInDim S500000x96 ![0] bcast_S500000_S500000x96_0 (okOf i))
    (Host.gather gather_S50000x96_S500000x1_S500000x96_1_0_n_n_0_1_196 x (colOf i))
    (broadcastInDim S500000x96 ![] bcast_S_S500000x96 (constant S_ .f32 0x7FC00000#32))

/-- A take of rows of 192: the row each word names, not-a-number where it names none. -/
def taken192 (x : FVec Ideal S50000x192 .f32) (i : IVec S500000 32) : FVec Ideal S500000x192 .f32 :=
  select (broadcastInDim S500000x192 ![0] bcast_S500000_S500000x192_0 (okOf i))
    (Host.gather gather_S50000x192_S500000x1_S500000x192_1_0_n_n_0_1_1192 x (colOf i))
    (broadcastInDim S500000x192 ![] bcast_S_S500000x192 (constant S_ .f32 0x7FC00000#32))

section
variable {i : IVec S500000 32} {f : Fin 500000 → Fin 50000} (hf : ∀ p, i (ix1 p) = BitVec.ofNat 32 (f p).val)
include hf

/-- The wrapped words hold the nodes the words hold. -/
theorem colOf_apply (p : Fin 500000) : colOf i (ix2 p (0 : Fin 1)) = BitVec.ofNat 32 (f p).val := by
  pointwise [colOf]
  rw [hf]
  exact Routing.wrap_of_lt _ _ (by rw [BitVec.toNat_ofNat]; have := (f p).isLt; omega)

/-- Every word names a node. -/
theorem okOf_apply (p : Fin 500000) : okOf i (ix1 p) = 1#1 := by
  refine Host.reduce_andi_one _ _ _ _ _ rfl fun q => ?_
  obtain ⟨p, z, rfl⟩ : ∃ (p : Fin 500000) (z : Fin 1), q = ix2 p z := ⟨q 0, q 1, eq_ix2 q⟩
  obtain rfl : z = 0 := Subsingleton.elim _ _
  pointwise
  rw [colOf_apply hf]
  have h1 := (f p).isLt
  rw [IntOp.cmpi_sge.2 (by rw [toInt_word (f p).val (by omega)]; exact Int.natCast_nonneg _),
    IntOp.cmpi_sle.2 (by
      rw [toInt_word (f p).val (by omega), show (49999#32 : BitVec 32).toInt = 49999 from by decide]; omega)]
  rfl
/-- A take of coordinates, at a pair, is its node's row. -/
theorem taken3_apply (x : FVec Ideal S50000x3 .f32) (p : Fin 500000) (a : Fin 3) : taken3 x i (ix2 p a) = x (ix2 (f p) a) := by
  pointwise [taken3]
  rw [okOf_apply hf, gather_rows2 _ rfl rfl rfl rfl rfl _ _ p a (f p) (colOf_apply hf p) (by norm_num)]
  rfl

/-- A take of rows of 96, at a pair, is its node's row. -/
theorem taken96_apply (x : FVec Ideal S50000x96 .f32) (p : Fin 500000) (a : Fin 96) : taken96 x i (ix2 p a) = x (ix2 (f p) a) := by
  pointwise [taken96]
  rw [okOf_apply hf, gather_rows2 _ rfl rfl rfl rfl rfl _ _ p a (f p) (colOf_apply hf p) (by norm_num)]
  rfl

/-- A take of rows of 192, at a pair, is its node's row. -/
theorem taken192_apply (x : FVec Ideal S50000x192 .f32) (p : Fin 500000) (a : Fin 192) : taken192 x i (ix2 p a) = x (ix2 (f p) a) := by
  pointwise [taken192]
  rw [okOf_apply hf, gather_rows2 _ rfl rfl rfl rfl rfl _ _ p a (f p) (colOf_apply hf p) (by norm_num)]
  rfl
end

variable (W : Valuation τ sig (Elt Ideal))

/-- The take of the first nodes' coordinates. -/
theorem take_v6 : StableHlo.after hostOps1 W (Proc.devRef .tc main_v6)
    = taken3 (W (Proc.devRef .tc main_arg1)) (W (Proc.devRef .tc main_v1)) := by
  after_reads_simp
  simp only [StableHlo.TRef.ofBuf_toBuf]
  simp -implicitDefEqProofs only [StableHlo.TRef.ofBuf, StableHlo.TRef.toBuf, cast_eq]
  unfold taken3 okOf colOf
  rfl

/-- The take of the second nodes' coordinates. -/
theorem take_v7 : StableHlo.after hostOps1_1 W (Proc.devRef .tc main_v7)
    = taken3 (W (Proc.devRef .tc main_arg1)) (W (Proc.devRef .tc main_v3)) := by
  after_reads_simp
  simp only [StableHlo.TRef.ofBuf_toBuf]
  simp -implicitDefEqProofs only [StableHlo.TRef.ofBuf, StableHlo.TRef.toBuf, cast_eq]
  unfold taken3 okOf colOf
  rfl

/-- The take of the first nodes' queries. -/
theorem take_v10 : StableHlo.after hostOps1_3 W (Proc.devRef .tc main_v10)
    = taken96 (W (Proc.devRef .tc main_v9)) (W (Proc.devRef .tc main_v1)) := by
  after_reads_simp
  simp only [StableHlo.TRef.ofBuf_toBuf]
  simp -implicitDefEqProofs only [StableHlo.TRef.ofBuf, StableHlo.TRef.toBuf, cast_eq]
  unfold taken96 okOf colOf
  rfl

/-- The take of the second nodes' keys and values. -/
theorem take_v12 : StableHlo.after hostOps1_5 W (Proc.devRef .tc main_v12)
    = taken192 (W (Proc.devRef .tc main_v11)) (W (Proc.devRef .tc main_v3)) := by
  after_reads_simp
  simp only [StableHlo.TRef.ofBuf_toBuf]
  simp -implicitDefEqProofs only [StableHlo.TRef.ofBuf, StableHlo.TRef.toBuf, cast_eq]
  unfold taken192 okOf colOf
  rfl

/-! ## The other stretches -/

/-- Row 0 of the pairs. -/
theorem s0_v1 (p : Fin 500000) : (StableHlo.after hostOps0 W (Proc.devRef .tc main_v1) : IVec S500000 32) (ix1 p)
    = (W (Proc.devRef .tc main_arg2) : IVec S2x500000 32) (ix2 (0 : Fin 2) p) := by
  after_reads_simp
  pointwise

/-- Row 1 of the pairs. -/
theorem s0_v3 (p : Fin 500000) : (StableHlo.after hostOps0 W (Proc.devRef .tc main_v3) : IVec S500000 32) (ix1 p)
    = (W (Proc.devRef .tc main_arg2) : IVec S2x500000 32) (ix2 (1 : Fin 2) p) := by
  after_reads_simp
  pointwise

/-- The bias laid out as one row. -/
theorem s0_v4 (j : Fin 288) : (StableHlo.after hostOps0 W (Proc.devRef .tc main_v4) : S1x288.Idx → EReal) (ix2 (0 : Fin 1) j)
    = (W (Proc.devRef .tc main_arg4) : S288.Idx → EReal) (ix1 j) := by
  after_reads_simp
  pointwise

/-- The differences of coordinates. -/
theorem s2_v8 (p : Fin 500000) (a : Fin 3) : (StableHlo.after hostOps1_2 W (Proc.devRef .tc main_v8) : S500000x3.Idx → EReal) (ix2 p a)
    = HSub.hSub (α := EReal) (β := EReal) ((W (Proc.devRef .tc main_v6) : S500000x3.Idx → EReal) (ix2 p a))
        ((W (Proc.devRef .tc main_v7) : S500000x3.Idx → EReal) (ix2 p a)) := by
  after_reads_simp
  pointwise

/-- The queries are the first 96 columns. -/
theorem s2_v9 (n : Fin 50000) (j : Fin 96) : (StableHlo.after hostOps1_2 W (Proc.devRef .tc main_v9) : S50000x96.Idx → EReal) (ix2 n j)
    = (W (Proc.devRef .tc main_v5) : S50000x288.Idx → EReal) (ix2 n (⟨j.val, by omega⟩ : Fin 288)) := by
  after_reads_simp
  pointwise

/-- The keys and values are the other 192 columns. -/
theorem s4_v11 (n : Fin 50000) (j : Fin 192) : (StableHlo.after hostOps1_4 W (Proc.devRef .tc main_v11) : S50000x192.Idx → EReal) (ix2 n j)
    = (W (Proc.devRef .tc main_v5) : S50000x288.Idx → EReal) (ix2 n (⟨96 + j.val, by omega⟩ : Fin 288)) := by
  after_reads_simp
  pointwise

/-- The pairs' keys. -/
theorem s6_v13 (p : Fin 500000) (j : Fin 96) : (StableHlo.after hostOps1_6 W (Proc.devRef .tc main_v13) : S500000x96.Idx → EReal) (ix2 p j)
    = (W (Proc.devRef .tc main_v12) : S500000x192.Idx → EReal) (ix2 p (⟨j.val, by omega⟩ : Fin 192)) := by
  after_reads_simp
  pointwise

/-- The pairs' values. -/
theorem s6_v14 (p : Fin 500000) (j : Fin 96) : (StableHlo.after hostOps1_6 W (Proc.devRef .tc main_v14) : S500000x96.Idx → EReal) (ix2 p j)
    = (W (Proc.devRef .tc main_v12) : S500000x192.Idx → EReal) (ix2 p (⟨96 + j.val, by omega⟩ : Fin 192)) := by
  after_reads_simp
  pointwise

/-- The sixteen that the column numbers are divided by. -/
theorem s6_c : StableHlo.after hostOps1_6 W (Proc.devRef .tc main_c) = constantI S_ 32 16#32 := by after_reads_simp

/-- The column numbers. -/
theorem s6_v19 : StableHlo.after hostOps1_6 W (Proc.devRef .tc main_v19)
    = broadcastInDim S96x1 ![0] bcast_S96_S96x1_0 (iotaInDim S96 32 0) := by after_reads_simp

/-- The head of a flat column. -/
theorem fl_div (h : Fin 6) (d : Fin 16) : (fl h d).val / 16 = h.val := by show (16 * h.val + d.val) / 16 = _; omega
/-- The place of a flat column in its head. -/
theorem fl_mod (h : Fin 6) (d : Fin 16) : (fl h d).val % 16 = d.val := by show (16 * h.val + d.val) % 16 = _; omega

/-- Where a table's entry lies once the table is laid out in ninety-six rows. -/
theorem entry4 (T : S3x32x6x16.Idx → EReal) (r c : Fin 96) (a : Fin 3) (b : Fin 32) (h : Fin 6) (d : Fin 16)
    (h0 : r.val / 32 = a.val) (h1 : r.val % 32 = b.val) (h2 : c.val / 16 = h.val) (h3 : c.val % 16 = d.val) :
    T (ix4 (⟨r.val / 32, by omega⟩ : Fin 3) (⟨r.val % 32, by omega⟩ : Fin 32) (⟨c.val / 16, by omega⟩ : Fin 6)
      (⟨c.val % 16, by omega⟩ : Fin 16)) = T (ix4 a b h d) := by
  congr 1
  exact congr (congr (congr (congrArg _ (Fin.ext h0)) (Fin.ext h1)) (Fin.ext h2)) (Fin.ext h3)

/-- The queries' table laid out in ninety-six rows. -/
theorem s6_v15 (a : Fin 3) (b : Fin 32) (h : Fin 6) (d : Fin 16) (r : Fin 96) (hr : r.val = 32 * a.val + b.val) :
    (StableHlo.after hostOps1_6 W (Proc.devRef .tc main_v15) : S96x96.Idx → EReal) (ix2 r (fl h d))
      = (W (Proc.devRef .tc main_arg5) : S3x32x6x16.Idx → EReal) (ix4 a b h d) := by
  after_reads_simp
  pointwise
  exact entry4 _ r (fl h d) a b h d (by omega) (by omega) (fl_div h d) (fl_mod h d)

/-- The keys' table laid out in ninety-six rows. -/
theorem s6_v16 (a : Fin 3) (b : Fin 32) (h : Fin 6) (d : Fin 16) (r : Fin 96) (hr : r.val = 32 * a.val + b.val) :
    (StableHlo.after hostOps1_6 W (Proc.devRef .tc main_v16) : S96x96.Idx → EReal) (ix2 r (fl h d))
      = (W (Proc.devRef .tc main_arg6) : S3x32x6x16.Idx → EReal) (ix4 a b h d) := by
  after_reads_simp
  pointwise
  exact entry4 _ r (fl h d) a b h d (by omega) (by omega) (fl_div h d) (fl_mod h d)

/-- The values' table laid out in ninety-six rows. -/
theorem s6_v17 (a : Fin 3) (b : Fin 32) (h : Fin 6) (d : Fin 16) (r : Fin 96) (hr : r.val = 32 * a.val + b.val) :
    (StableHlo.after hostOps1_6 W (Proc.devRef .tc main_v17) : S96x96.Idx → EReal) (ix2 r (fl h d))
      = (W (Proc.devRef .tc main_arg7) : S3x32x6x16.Idx → EReal) (ix4 a b h d) := by
  after_reads_simp
  pointwise
  exact entry4 _ r (fl h d) a b h d (by omega) (by omega) (fl_div h d) (fl_mod h d)

/-- The head each column belongs to: its number over sixteen. -/
theorem s7_v20 (j : Fin 96) (hc : W (Proc.devRef .tc main_c) = constantI S_ 32 16#32)
    (hi : W (Proc.devRef .tc main_v19) = broadcastInDim S96x1 ![0] bcast_S96_S96x1_0 (iotaInDim S96 32 0)) :
    (StableHlo.after hostOps1_7 W (Proc.devRef .tc main_v20) : IVec S96x1 32) (ix2 j (0 : Fin 1)) = BitVec.ofNat 32 (j.val / 16) := by
  after_reads_simp
  simp only [StableHlo.TRef.ofBuf_toBuf]
  simp -implicitDefEqProofs only [StableHlo.TRef.ofBuf, StableHlo.TRef.toBuf, cast_eq]
  rw [hc, hi]
  pointwise
  simp only [id_eq]
  clear hc hi
  revert j
  decide +kernel

/-- Whether a column belongs to a head, as a number. -/
theorem s8_v26 (j : Fin 96) (h : Fin 6) :
    (StableHlo.after hostOps1_8 W (Proc.devRef .tc main_v26) : S96x6.Idx → EReal) (ix2 j h)
      = FloatOps.uitofp (F := Ideal) .f32 (IntOp.cmpi .eq ((W (Proc.devRef .tc main_v20) : IVec S96x1 32) (ix2 j (0 : Fin 1))) (BitVec.ofNat 32 h.val)) := by
  after_reads_simp
  pointwise

/-- The output bias laid out as one row. -/
theorem t2_v34 (j : Fin 96) : (StableHlo.after hostOps2 W (Proc.devRef .tc main_v34) : S1x96.Idx → EReal) (ix2 (0 : Fin 1) j)
    = (W (Proc.devRef .tc main_arg9) : S96.Idx → EReal) (ix1 j) := by
  after_reads_simp
  pointwise

section
variable {f : Fin 500000 → Fin 50000} (hf : ∀ p, (W (Proc.devRef .tc main_v1) : IVec S500000 32) (ix1 p) = BitVec.ofNat 32 (f p).val)
include hf

/-- The contributions summed at each node. -/
theorem t2_v30 (u : S500000x96.Idx → EReal) (hu : W (Proc.devRef .tc main_v27_0) = u) (n : Fin 50000) (j : Fin 96) : (StableHlo.after hostOps2 W (Proc.devRef .tc main_v30) : S50000x96.Idx → EReal) (ix2 n j)
    = ∑ p ∈ Finset.univ.filter (fun p => f p = n), u (ix2 p j) := by
  subst hu
  after_reads_simp
  refine (scatter_into2 _ _ _ _ f (fun p => ?_) (by norm_num) n j).trans ?_
  · pointwise
    exact hf p
  · pointwise

/-- The exponentials summed at each node. -/
theorem t2_v33 (u : S500000x6.Idx → EReal) (hu : W (Proc.devRef .tc main_v27_1) = u) (n : Fin 50000) (h : Fin 6) : (StableHlo.after hostOps2 W (Proc.devRef .tc main_v33) : S50000x6.Idx → EReal) (ix2 n h)
    = ∑ p ∈ Finset.univ.filter (fun p => f p = n), u (ix2 p h) := by
  subst hu
  after_reads_simp
  refine (scatter_into2 _ _ _ _ f (fun p => ?_) (by norm_num) n h).trans ?_
  · pointwise
    exact hf p
  · pointwise
end

end Cert.KernelIdeal.Out

end
-- ==== Proof.Spec.lean ====
/- The attention both programs compute, from the arrays they are given, in the form the kernel computes it. -/
module

public import proofs.«01_k».proof.Proof.Math

@[expose] public section

set_option maxRecDepth 16384

noncomputable section

namespace Cert.Seg

open Idealize.ShloMosaic

/-- The arguments, the pairs' two rows of words as the nodes they name. -/
structure In where
  x : (⟨2, ![50000, 96]⟩ : Shape).Idx → EReal
  co : (⟨2, ![50000, 3]⟩ : Shape).Idx → EReal
  f0 : Fin 500000 → Fin 50000
  f1 : Fin 500000 → Fin 50000
  w : (⟨2, ![96, 288]⟩ : Shape).Idx → EReal
  b : (⟨1, ![288]⟩ : Shape).Idx → EReal
  tq : (⟨4, ![3, 32, 6, 16]⟩ : Shape).Idx → EReal
  tk : (⟨4, ![3, 32, 6, 16]⟩ : Shape).Idx → EReal
  tv : (⟨4, ![3, 32, 6, 16]⟩ : Shape).Idx → EReal
  wo : (⟨2, ![96, 96]⟩ : Shape).Idx → EReal
  bo : (⟨1, ![96]⟩ : Shape).Idx → EReal

namespace In

variable (A : In)

/-- Column `j` of node `n`'s query, key and value. -/
def qkv (n : Fin 50000) (j : Fin 288) : EReal := (∑ k : Fin 96, A.x (ix2 n k) * A.w (ix2 k j)) + A.b (ix1 j)
/-- Node `n`'s query at head `h`. -/
def q (n : Fin 50000) (h : Fin 6) (d : Fin 16) : EReal := A.qkv n ⟨(fl h d).val, by omega⟩
/-- Node `n`'s key at head `h`. -/
def k (n : Fin 50000) (h : Fin 6) (d : Fin 16) : EReal := A.qkv n ⟨96 + (fl h d).val, by omega⟩
/-- Node `n`'s value at head `h`. -/
def v (n : Fin 50000) (h : Fin 6) (d : Fin 16) : EReal := A.qkv n ⟨192 + (fl h d).val, by omega⟩
/-- The difference of a pair's coordinates along axis `a`. -/
def dist (p : Fin 500000) (a : Fin 3) : EReal := A.co (ix2 (A.f0 p) a) - A.co (ix2 (A.f1 p) a)
/-- A table's three rows at a pair's bins, summed. -/
def row (T : (⟨4, ![3, 32, 6, 16]⟩ : Shape).Idx → EReal) (p : Fin 500000) (h : Fin 6) (d : Fin 16) : EReal :=
  T (ix4 (0 : Fin 3) (bn (A.dist p 0)) h d) + T (ix4 (1 : Fin 3) (bn (A.dist p 1)) h d) + T (ix4 (2 : Fin 3) (bn (A.dist p 2)) h d)
/-- A pair's logit at head `h`. -/
def logit (p : Fin 500000) (h : Fin 6) : EReal :=
  ∑ d : Fin 16, (A.q (A.f0 p) h d * Ideal.ofBits .f32 0x3E800000#32 * (A.k (A.f1 p) h d + A.row A.tk p h d)
    + A.k (A.f1 p) h d * A.row A.tq p h d)
/-- What a pair adds to the first node, before its weight. -/
def val (p : Fin 500000) (h : Fin 6) (d : Fin 16) : EReal := A.v (A.f1 p) h d + A.row A.tv p h d
/-- The sum of the exponentials at a node. -/
def den (n : Fin 50000) (h : Fin 6) : EReal := ∑ p ∈ Finset.univ.filter (fun p => A.f0 p = n), Ideal.exp (A.logit p h)
/-- A node's output at head `h`: its pairs' values weighted by their exponentials, over the sum of these. -/
def head (n : Fin 50000) (h : Fin 6) (d : Fin 16) : EReal :=
  (∑ p ∈ Finset.univ.filter (fun p => A.f0 p = n), Ideal.exp (A.logit p h) * A.val p h d)
    * Ideal.div 1 (if 0 < A.den n h then A.den n h else 1)
/-- The result: the heads side by side, through the output matrix, plus the output bias. -/
def out (n : Fin 50000) (j : Fin 96) : EReal :=
  (∑ h : Fin 6, ∑ d : Fin 16, A.head n h d * A.wo (ix2 (fl h d) j)) + A.bo (ix1 j)

end In

end Cert.Seg

end
-- ==== Proof.Host.lean ====
/- The kernel's result is the attention of its arguments. -/
module

public import proofs.«01_k».proof.Proof.Takes
public import proofs.«01_k».proof.Proof.Spec

@[expose] public section

set_option maxRecDepth 16384

noncomputable section

namespace Cert.KernelIdeal.Out

open Cert.KernelIdeal.Gen Cert.Seg
open Idealize.ShloMosaic Idealize.ShloMosaic.TcCoe

variable (m : (ℓ : Loc nD τ sig) → Buf (Elt Ideal) ℓ) (ρ : Dev nD → PrngReg) (c : Dev nD)

/-- The arguments as launched. -/
def args (f0 f1 : Fin 500000 → Fin 50000) : In where
  x := m ((c : Thread nD τ).loc main_arg0)
  co := m ((c : Thread nD τ).loc main_arg1)
  f0 := f0
  f1 := f1
  w := m ((c : Thread nD τ).loc main_arg3)
  b := m ((c : Thread nD τ).loc main_arg4)
  tq := m ((c : Thread nD τ).loc main_arg5)
  tk := m ((c : Thread nD τ).loc main_arg6)
  tv := m ((c : Thread nD τ).loc main_arg7)
  wo := m ((c : Thread nD τ).loc main_arg8)
  bo := m ((c : Thread nD τ).loc main_arg9)

/-! ## References kept across stretches -/

/-- The first words, after the stretch that computes them, as the next region leaves them. -/
theorem keep_v1_2 : W2 m ρ c (Proc.devRef .tc main_v1) = W1 m ρ c (Proc.devRef .tc main_v1) := W2_of m ρ c _ (by decide)
/-- The first words as they were computed, where the queries are taken. -/
theorem keep_v1_5 : W5 m ρ c (Proc.devRef .tc main_v1) = W1 m ρ c (Proc.devRef .tc main_v1) := by
  rw [W5_of m ρ c _ (by decide), W4_of m ρ c _ (by decide), W3_of m ρ c _ (by decide), keep_v1_2]
/-- The first words as they were computed, where the sums over pairs are scattered. -/
theorem keep_v1_12 : W12 m ρ c (Proc.devRef .tc main_v1) = W1 m ρ c (Proc.devRef .tc main_v1) := by
  rw [W12_of m ρ c _ (by decide), W11_of m ρ c _ (by decide), W10_of m ρ c _ (by decide), W9_of m ρ c _ (by decide),
    W8_of m ρ c _ (by decide), W7_of m ρ c _ (by decide), W6_of m ρ c _ (by decide), keep_v1_5]
/-- The second words as they were computed, where the second coordinates are taken. -/
theorem keep_v3_3 : W3 m ρ c (Proc.devRef .tc main_v3) = W1 m ρ c (Proc.devRef .tc main_v3) := by
  rw [W3_of m ρ c _ (by decide), W2_of m ρ c _ (by decide)]
/-- The second words as they were computed, where the keys and values are taken. -/
theorem keep_v3_7 : W7 m ρ c (Proc.devRef .tc main_v3) = W1 m ρ c (Proc.devRef .tc main_v3) := by
  rw [W7_of m ρ c _ (by decide), W6_of m ρ c _ (by decide), W5_of m ρ c _ (by decide), W4_of m ρ c _ (by decide), keep_v3_3]
/-- The projection as its region leaves it, where the queries are sliced of it. -/
theorem keep_v5_4 : W4 m ρ c (Proc.devRef .tc main_v5) = W2 m ρ c (Proc.devRef .tc main_v5) := by
  rw [W4_of m ρ c _ (by decide), W3_of m ρ c _ (by decide)]
/-- The projection as its region leaves it, where the keys and values are sliced of it. -/
theorem keep_v5_6 : W6 m ρ c (Proc.devRef .tc main_v5) = W2 m ρ c (Proc.devRef .tc main_v5) := by
  rw [W6_of m ρ c _ (by decide), W5_of m ρ c _ (by decide), keep_v5_4]
/-- The coordinate differences as they were computed, where the pairs' region reads them. -/
theorem keep_v8 : W11 m ρ c (Proc.devRef .tc main_v8) = W5 m ρ c (Proc.devRef .tc main_v8) := by
  rw [W11_of m ρ c _ (by decide), W10_of m ρ c _ (by decide), W9_of m ρ c _ (by decide),
    W8_of m ρ c _ (by decide), W7_of m ρ c _ (by decide), W6_of m ρ c _ (by decide)]
/-- The queries taken, where the pairs' region reads them. -/
theorem keep_v10 : W11 m ρ c (Proc.devRef .tc main_v10) = W6 m ρ c (Proc.devRef .tc main_v10) := by
  rw [W11_of m ρ c _ (by decide), W10_of m ρ c _ (by decide), W9_of m ρ c _ (by decide),
    W8_of m ρ c _ (by decide), W7_of m ρ c _ (by decide)]
/-- A reference neither of two stretches writes is kept across both. -/
theorem keep_9 (r : Ref sig .tc) (h1 : r ∉ hostOps1_7_W) (h2 : r ∉ hostOps1_8_W) :
    W11 m ρ c (Proc.devRef .tc r) = W9 m ρ c (Proc.devRef .tc r) := by
  rw [W11_of m ρ c _ h2, W10_of m ρ c _ h1]
/-- The heads' indicator, where the last region reads it. -/
theorem keep_v26 : W13 m ρ c (Proc.devRef .tc main_v26) = W11 m ρ c (Proc.devRef .tc main_v26) := by
  rw [W13_of m ρ c _ (by decide), W12_of m ρ c _ (by decide)]

/-! ## What the calls read -/

section
variable {f0 f1 : Fin 500000 → Fin 50000}
  (h0 : ∀ p, (m ((c : Thread nD τ).loc main_arg2) : IVec S2x500000 32) (ix2 (0 : Fin 2) p) = BitVec.ofNat 32 (f0 p).val)
  (h1 : ∀ p, (m ((c : Thread nD τ).loc main_arg2) : IVec S2x500000 32) (ix2 (1 : Fin 2) p) = BitVec.ofNat 32 (f1 p).val)

include h0 in
/-- The first words as computed hold the first nodes. -/
theorem word0 (p : Fin 500000) : (W1 m ρ c (Proc.devRef .tc main_v1) : IVec S500000 32) (ix1 p) = BitVec.ofNat 32 (f0 p).val :=
  (s0_v1 (W0 m ρ c) p).trans (by rw [W0_args m ρ c main_arg2 (by decide)]; exact h0 p)

include h1 in
/-- The second words as computed hold the second nodes. -/
theorem word1 (p : Fin 500000) : (W1 m ρ c (Proc.devRef .tc main_v3) : IVec S500000 32) (ix1 p) = BitVec.ofNat 32 (f1 p).val :=
  (s0_v3 (W0 m ρ c) p).trans (by rw [W0_args m ρ c main_arg2 (by decide)]; exact h1 p)

/-- The projected rows. -/
theorem at_v5 (n : Fin 50000) (j : Fin 288) :
    (W2 m ρ c (Proc.devRef .tc main_v5) : S50000x288.Idx → EReal) (ix2 n j) = (args m c f0 f1).qkv n j := by
  refine (congrFun ((W2_arr m ρ c 3).trans (final0 (V1 m ρ) c)) (ix2 n j)).trans ?_
  unfold lin In.qkv
  refine congrArg₂ (· + ·) (Finset.sum_congr rfl fun k _ => congrArg₂ (· * ·) ?_ ?_) ?_
  · exact congrFun (W1_args m ρ c main_arg0 (by decide)) _
  · exact congrFun (W1_args m ρ c main_arg3 (by decide)) _
  · exact (s0_v4 (W0 m ρ c) j).trans (congrFun (W0_args m ρ c main_arg4 (by decide)) _)

include h0 h1 in
/-- The differences of coordinates. -/
theorem at_v8 (p : Fin 500000) (a : Fin 3) :
    (W11 m ρ c (Proc.devRef .tc main_v8) : S500000x3.Idx → EReal) (ix2 p a) = (args m c f0 f1).dist p a := by
  rw [keep_v8]
  refine (s2_v8 (W4 m ρ c) p a).trans ?_
  unfold In.dist
  refine congrArg₂ (· - ·) ?_ ?_
  · rw [W4_of m ρ c _ (by decide)]
    refine (congrFun (take_v6 (W2 m ρ c)) _).trans ((taken3_apply (f := f0) (fun p => ?_) _ p a).trans ?_)
    · rw [keep_v1_2]; exact word0 m ρ c h0 p
    · exact congrFun (W2_args m ρ c main_arg1 (by decide)) _
  · refine (congrFun (take_v7 (W3 m ρ c)) _).trans ((taken3_apply (f := f1) (fun p => ?_) _ p a).trans ?_)
    · rw [keep_v3_3]; exact word1 m ρ c h1 p
    · exact congrFun (W3_args m ρ c main_arg1 (by decide)) _

include h0 in
/-- The pairs' queries. -/
theorem at_v10 (p : Fin 500000) (h : Fin 6) (d : Fin 16) :
    (W11 m ρ c (Proc.devRef .tc main_v10) : S500000x96.Idx → EReal) (ix2 p (fl h d)) = (args m c f0 f1).q (f0 p) h d := by
  rw [keep_v10]
  refine (congrFun (take_v10 (W5 m ρ c)) _).trans ((taken96_apply (f := f0) (fun p => ?_) _ p _).trans ?_)
  · rw [keep_v1_5]; exact word0 m ρ c h0 p
  · refine (s2_v9 (W4 m ρ c) _ _).trans ?_
    rw [keep_v5_4]
    exact at_v5 m ρ c _ _

include h1 in
/-- The pairs' keys and values. -/
theorem at_v12 (p : Fin 500000) (j : Fin 192) :
    (W8 m ρ c (Proc.devRef .tc main_v12) : S500000x192.Idx → EReal) (ix2 p j)
      = (args m c f0 f1).qkv (f1 p) (⟨96 + j.val, by omega⟩ : Fin 288) := by
  refine (congrFun (take_v12 (W7 m ρ c)) _).trans ((taken192_apply (f := f1) (fun p => ?_) _ p _).trans ?_)
  · rw [keep_v3_7]; exact word1 m ρ c h1 p
  · refine (s4_v11 (W6 m ρ c) _ _).trans ?_
    rw [keep_v5_6]
    exact at_v5 m ρ c _ _

include h1 in
/-- The keys' half of the taken rows at a pair is the second node's key. -/
theorem at_v13 (p : Fin 500000) (h : Fin 6) (d : Fin 16) :
    (W11 m ρ c (Proc.devRef .tc main_v13) : S500000x96.Idx → EReal) (ix2 p (fl h d)) = (args m c f0 f1).k (f1 p) h d := by
  rw [keep_9 m ρ c _ (by decide) (by decide)]
  exact (s6_v13 (W8 m ρ c) p _).trans (at_v12 m ρ c (f0 := f0) h1 p _)

include h1 in
/-- The values' half of the taken rows at a pair is the second node's value. -/
theorem at_v14 (p : Fin 500000) (h : Fin 6) (d : Fin 16) :
    (W11 m ρ c (Proc.devRef .tc main_v14) : S500000x96.Idx → EReal) (ix2 p (fl h d)) = (args m c f0 f1).v (f1 p) h d := by
  rw [keep_9 m ρ c _ (by decide) (by decide)]
  refine (s6_v14 (W8 m ρ c) p _).trans ((at_v12 m ρ c (f0 := f0) h1 p _).trans ?_)
  unfold In.v
  exact congrArg _ (Fin.ext (by show 96 + (96 + (fl h d).val) = 192 + (fl h d).val; omega))

/-- The columns of each head. -/
theorem at_v26 (j : Fin 96) (h : Fin 6) :
    (W11 m ρ c (Proc.devRef .tc main_v26) : S96x6.Idx → EReal) (ix2 j h) = if j.val / 16 = h.val then (1 : EReal) else 0 := by
  refine (s8_v26 (W10 m ρ c) j h).trans ?_
  rw [show (W10 m ρ c (Proc.devRef .tc main_v20) : IVec S96x1 32) (ix2 j (0 : Fin 1)) = BitVec.ofNat 32 (j.val / 16) from
    s7_v20 (W9 m ρ c) j (s6_c _) (s6_v19 _)]
  by_cases e : j.val / 16 = h.val
  · rw [if_pos e, e, show IntOp.cmpi .eq (BitVec.ofNat 32 h.val) (BitVec.ofNat 32 h.val) = 1#1 from by simp [IntOp.cmpi]]
    show (((1#1 : BitVec 1).toNat : ℝ) : EReal) = 1
    simp
  · have hne : BitVec.ofNat 32 (j.val / 16) ≠ BitVec.ofNat 32 h.val := fun w => e (by
      have := congrArg BitVec.toNat w
      rw [BitVec.toNat_ofNat, BitVec.toNat_ofNat] at this
      omega)
    rw [if_neg e, show IntOp.cmpi .eq (BitVec.ofNat 32 (j.val / 16)) (BitVec.ofNat 32 h.val) = 0#1 from by
      show BitVec.ofBool (_ == _) = _
      rw [beq_eq_false_iff_ne.2 hne]
      rfl]
    show (((0#1 : BitVec 1).toNat : ℝ) : EReal) = 0
    simp

/-- Against the columns of each head, the logit is a sum over the head's columns. -/
theorem expo_heads (TQ TK : S96x96.Idx → EReal) (H : S96x6.Idx → EReal) (D : Fin 3 → EReal) (q k : Fin 96 → EReal)
    (hH : ∀ (j : Fin 96) (h : Fin 6), H (ix2 j h) = if j.val / 16 = h.val then (1 : EReal) else 0) (h : Fin 6) :
    expo TQ TK H D q k h = Ideal.exp (∑ d : Fin 16, prods TQ TK D q k (fl h d)) := by
  unfold expo
  simp only [hH]
  rw [sum_group]

/-- A pair's products from their parts. -/
theorem prods_of (TQ TK : S96x96.Idx → EReal) (D : Fin 3 → EReal) (q k : Fin 96 → EReal) (j : Fin 96) {a b rk rq : EReal}
    (hq : q j = a) (hk : k j = b) (hrk : tab TK D j = rk) (hrq : tab TQ D j = rq) :
    prods TQ TK D q k j = a * Ideal.ofBits .f32 0x3E800000#32 * (b + rk) + b * rq := by
  subst hq hk hrk hrq; rfl

/-- The sum of a laid-out table's rows is the sum of the table's. -/
theorem tab_eq (T : S96x96.Idx → EReal) (T4 : S3x32x6x16.Idx → EReal) (p : Fin 500000) (h : Fin 6) (d : Fin 16)
    (hT : ∀ (a : Fin 3) (b : Fin 32) (r : Fin 96), r.val = 32 * a.val + b.val → T (ix2 r (fl h d)) = T4 (ix4 a b h d)) :
    tab T ((args m c f0 f1).dist p) (fl h d) = (args m c f0 f1).row T4 p h d := by
  unfold tab In.row
  rw [hT 0 (bn ((args m c f0 f1).dist p 0)) _ (by simp), hT 1 (bn ((args m c f0 f1).dist p 1)) _ (by simp),
    hT 2 (bn ((args m c f0 f1).dist p 2)) _ (by simp)]

/-- The query table's three rows that the pairs' region sums are `In.row` of it. -/
theorem tab_q (p : Fin 500000) (h : Fin 6) (d : Fin 16) :
    tab (W11 m ρ c (Proc.devRef .tc main_v15)) ((args m c f0 f1).dist p) (fl h d) = (args m c f0 f1).row (args m c f0 f1).tq p h d :=
  tab_eq m c _ _ p h d fun a b r hr => by
    rw [keep_9 m ρ c _ (by decide) (by decide)]
    exact (s6_v15 (W8 m ρ c) a b h d r hr).trans (congrFun (W8_args m ρ c main_arg5 (by decide)) _)

/-- The key table's three rows that the pairs' region sums are `In.row` of it. -/
theorem tab_k (p : Fin 500000) (h : Fin 6) (d : Fin 16) :
    tab (W11 m ρ c (Proc.devRef .tc main_v16)) ((args m c f0 f1).dist p) (fl h d) = (args m c f0 f1).row (args m c f0 f1).tk p h d :=
  tab_eq m c _ _ p h d fun a b r hr => by
    rw [keep_9 m ρ c _ (by decide) (by decide)]
    exact (s6_v16 (W8 m ρ c) a b h d r hr).trans (congrFun (W8_args m ρ c main_arg6 (by decide)) _)

/-- The value table's three rows that the pairs' region sums are `In.row` of it. -/
theorem tab_v (p : Fin 500000) (h : Fin 6) (d : Fin 16) :
    tab (W11 m ρ c (Proc.devRef .tc main_v17)) ((args m c f0 f1).dist p) (fl h d) = (args m c f0 f1).row (args m c f0 f1).tv p h d :=
  tab_eq m c _ _ p h d fun a b r hr => by
    rw [keep_9 m ρ c _ (by decide) (by decide)]
    exact (s6_v17 (W8 m ρ c) a b h d r hr).trans (congrFun (W8_args m ρ c main_arg7 (by decide)) _)

include h0 h1

/-- What the second call leaves at a pair and a head: the pair's exponentiated logit. -/
theorem expo_at (p : Fin 500000) (h : Fin 6) :
    expo (W11 m ρ c (Proc.devRef .tc main_v15)) (W11 m ρ c (Proc.devRef .tc main_v16)) (W11 m ρ c (Proc.devRef .tc main_v26))
        (fun a => (W11 m ρ c (Proc.devRef .tc main_v8) : S500000x3.Idx → EReal) (ix2 p a))
        (fun j => (W11 m ρ c (Proc.devRef .tc main_v10) : S500000x96.Idx → EReal) (ix2 p j))
        (fun j => (W11 m ρ c (Proc.devRef .tc main_v13) : S500000x96.Idx → EReal) (ix2 p j)) h
      = Ideal.exp ((args m c f0 f1).logit p h) := by
  rw [show (fun a => (W11 m ρ c (Proc.devRef .tc main_v8) : S500000x3.Idx → EReal) (ix2 p a)) = (args m c f0 f1).dist p from
    funext fun a => at_v8 m ρ c h0 h1 p a]
  rw [expo_heads _ _ _ _ _ _ (at_v26 m ρ c) h]
  refine congrArg Ideal.exp ?_
  unfold In.logit
  refine Finset.sum_congr rfl fun d _ => ?_
  exact prods_of _ _ _ _ _ _ (at_v10 m ρ c h0 p h d) (at_v13 m ρ c h1 p h d) (tab_k m ρ c p h d) (tab_q m ρ c p h d)

/-- The array of exponentials. -/
theorem at_v27_1 (p : Fin 500000) (h : Fin 6) :
    ((dat1 (V11 m ρ) c).arrAt 9 cfg1.N : S500000x6.Idx → EReal) (ix2 p h) = Ideal.exp ((args m c f0 f1).logit p h) :=
  (congrFun (final1_9 (V11 m ρ) c) (ix2 p h)).trans (expo_at m ρ c h0 h1 p h)

/-- The array of contributions. -/
theorem at_v27_0 (p : Fin 500000) (h : Fin 6) (d : Fin 16) :
    ((dat1 (V11 m ρ) c).arrAt 8 cfg1.N : S500000x96.Idx → EReal) (ix2 p (fl h d))
      = Ideal.exp ((args m c f0 f1).logit p h) * (args m c f0 f1).val p h d := by
  refine (congrFun (final1_8 (V11 m ρ) c) (ix2 p (fl h d))).trans ?_
  unfold contribs contrib
  refine congrArg₂ (· * ·) ?_ ?_
  · refine (Finset.sum_congr rfl fun h' _ => congrArg₂ (· * ·) (expo_at m ρ c h0 h1 p h') (at_v26 m ρ c (fl h d) h')).trans ?_
    exact sum_head (fun h' => Ideal.exp ((args m c f0 f1).logit p h')) h d
  · refine congrArg₂ (· + ·) (at_v14 m ρ c h1 p h d) ?_
    rw [← tab_v m ρ c p h d]
    exact congrArg (fun D => tab _ D _) (funext fun a => at_v8 m ρ c h0 h1 p a)

/-- The exponentials summed at a node. -/
theorem at_v33 (n : Fin 50000) (h : Fin 6) :
    (W13 m ρ c (Proc.devRef .tc main_v33) : S50000x6.Idx → EReal) (ix2 n h) = (args m c f0 f1).den n h := by
  refine (t2_v33 (W12 m ρ c) (f := f0) (fun p => ?_) _ (W12_arr m ρ c 9) n h).trans ?_
  · rw [keep_v1_12]; exact word0 m ρ c h0 p
  · show @Eq EReal _ _
    exact Finset.sum_congr rfl fun p _ => at_v27_1 m ρ c h0 h1 p h

/-- The contributions summed at a node. -/
theorem at_v30 (n : Fin 50000) (h : Fin 6) (d : Fin 16) :
    (W13 m ρ c (Proc.devRef .tc main_v30) : S50000x96.Idx → EReal) (ix2 n (fl h d))
      = ∑ p ∈ Finset.univ.filter (fun p => f0 p = n), Ideal.exp ((args m c f0 f1).logit p h) * (args m c f0 f1).val p h d := by
  refine (t2_v30 (W12 m ρ c) (f := f0) (fun p => ?_) _ (W12_arr m ρ c 8) n (fl h d)).trans ?_
  · rw [keep_v1_12]; exact word0 m ρ c h0 p
  · show @Eq EReal _ _
    exact Finset.sum_congr rfl fun p _ => at_v27_0 m ρ c h0 h1 p h d

/-- The kernel's result array is the attention of its arguments. -/
theorem result (n : Fin 50000) (j : Fin 96) :
    (W14 m ρ c (Proc.devRef .tc main_v35) : S50000x96.Idx → EReal) (ix2 n j) = (args m c f0 f1).out n j := by
  refine (congrFun ((W14_arr m ρ c 5).trans (final2 (V13 m ρ) c)) (ix2 n j)).trans ?_
  unfold proj In.out
  refine congrArg₂ (· + ·) ?_ ((t2_v34 (W12 m ρ c) j).trans (congrFun (W12_args m ρ c main_arg9 (by decide)) _))
  refine (sum_fl _).trans (Finset.sum_congr rfl fun h _ => Finset.sum_congr rfl fun d _ => ?_)
  refine congrArg₂ (· * ·) ?_ (congrFun (W13_args m ρ c main_arg8 (by decide)) _)
  unfold In.head
  refine congrArg₂ (· * ·) (at_v30 m ρ c h0 h1 n h d) ?_
  refine (Finset.sum_congr rfl fun h' _ => congrArg₂ (· * ·) (?_ : _ = Ideal.div 1 (if 0 < (args m c f0 f1).den n h' then
    (args m c f0 f1).den n h' else 1)) ?_).trans (sum_head _ h d)
  · rw [← at_v33 m ρ c h0 h1 n h']
    rfl
  · refine (congrFun (keep_v26 m ρ c) _).trans (at_v26 m ρ c _ h')

end

end Cert.KernelIdeal.Out

end
-- ==== Proof.Ref.lean ====
/- The reference's operations at an index, up to the values it gathers. -/
module

public import proofs.«01_k».proof.Proof.Spec
public import proofs.«01_k».proof.Proof.Gen.ReferenceIdeal.Read

@[expose] public section

set_option maxRecDepth 16384

noncomputable section

namespace Cert.ReferenceIdeal.Out

open Cert.ReferenceIdeal.Gen Cert.ReferenceIdeal.Read Cert.Seg
open Idealize.ShloMosaic Idealize.ShloMosaic.TcCoe

variable (A : In) (x2 : (⟨S2x500000, .i32⟩ : BufTy).Contents (Elt Ideal))

/-! ## Queries, keys and values -/

/-- The projection at an index. -/
theorem v3_at (n : Fin 50000) (j : Fin 288) :
    (val_main_v3 (F := Ideal) A.x A.w A.b : S50000x288.Idx → EReal) (ix2 n j) = A.qkv n j := by
  pointwise [val_main_v0, val_main_v1, val_main_v2, val_main_v3]
  rfl

/-- The queries at an index. -/
theorem v6_at (n : Fin 50000) (h : Fin 6) (d : Fin 16) :
    (val_main_v6 (F := Ideal) A.x A.w A.b : S50000x6x16.Idx → EReal) (ix3 n h d) = A.q n h d := by
  pointwise [val_main_v4, val_main_v5, val_main_v6]
  exact (v3_at A n _).trans (congrArg (A.qkv n) (Fin.ext (by show h.val * 16 + d.val = 16 * h.val + d.val; omega)))

/-- The keys at an index. -/
theorem v8_at (n : Fin 50000) (h : Fin 6) (d : Fin 16) :
    (val_main_v8 (F := Ideal) A.x A.w A.b : S50000x6x16.Idx → EReal) (ix3 n h d) = A.k n h d := by
  pointwise [val_main_v4, val_main_v7, val_main_v8]
  exact (v3_at A n _).trans (congrArg (A.qkv n) (Fin.ext (by show 96 + h.val * 16 + d.val = 96 + (16 * h.val + d.val); omega)))

/-- The values at an index. -/
theorem v10_at (n : Fin 50000) (h : Fin 6) (d : Fin 16) :
    (val_main_v10 (F := Ideal) A.x A.w A.b : S50000x6x16.Idx → EReal) (ix3 n h d) = A.v n h d := by
  pointwise [val_main_v4, val_main_v9, val_main_v10]
  exact (v3_at A n _).trans (congrArg (A.qkv n) (Fin.ext (by show 192 + h.val * 16 + d.val = 192 + (16 * h.val + d.val); omega)))

/-! ## The pairs' nodes -/

section
variable {A x2}

/-- The first row of words holds the first nodes. -/
theorem v12_at (h0 : ∀ p, (x2 : IVec S2x500000 32) (ix2 (0 : Fin 2) p) = BitVec.ofNat 32 (A.f0 p).val) (p : Fin 500000) :
    (val_main_v12 (F := Ideal) x2 : IVec S500000 32) (ix1 p) = BitVec.ofNat 32 (A.f0 p).val := by
  pointwise [val_main_v11, val_main_v12]
  exact h0 p

/-- The second row of words holds the second nodes. -/
theorem v14_at (h1 : ∀ p, (x2 : IVec S2x500000 32) (ix2 (1 : Fin 2) p) = BitVec.ofNat 32 (A.f1 p).val) (p : Fin 500000) :
    (val_main_v14 (F := Ideal) x2 : IVec S500000 32) (ix1 p) = BitVec.ofNat 32 (A.f1 p).val := by
  pointwise [val_main_v13, val_main_v14]
  exact h1 p

/-- A first word, which is not negative, is not wrapped. -/
theorem v20_at (h0 : ∀ p, (x2 : IVec S2x500000 32) (ix2 (0 : Fin 2) p) = BitVec.ofNat 32 (A.f0 p).val) (p : Fin 500000) :
    (val_main_v20 (F := Ideal) x2 : IVec S500000x1 32) (ix2 p (0 : Fin 1)) = BitVec.ofNat 32 (A.f0 p).val := by
  pointwise [val_main_v20, val_main_v19, val_main_v18, val_main_v17, val_main_v16, val_main_v15, val_main_c, val_main_c_0]
  rw [v12_at h0 p]
  exact Routing.wrap_of_lt _ _ (by rw [BitVec.toNat_ofNat]; have := (A.f0 p).isLt; omega)

/-- A second word, which is not negative, is not wrapped. -/
theorem v27_at (h1 : ∀ p, (x2 : IVec S2x500000 32) (ix2 (1 : Fin 2) p) = BitVec.ofNat 32 (A.f1 p).val) (p : Fin 500000) :
    (val_main_v27 (F := Ideal) x2 : IVec S500000x1 32) (ix2 p (0 : Fin 1)) = BitVec.ofNat 32 (A.f1 p).val := by
  pointwise [val_main_v27, val_main_v26, val_main_v25, val_main_v24, val_main_v23, val_main_v22, val_main_c_1, val_main_c_2]
  rw [v14_at h1 p]
  exact Routing.wrap_of_lt _ _ (by rw [BitVec.toNat_ofNat]; have := (A.f1 p).isLt; omega)

end

/-- The words that index the queries are those that index the first coordinates. -/
theorem v41_eq : val_main_v41 (F := Ideal) x2 = val_main_v20 (F := Ideal) x2 := rfl
/-- The words that index the maxima are those that index the first coordinates. -/
theorem v183_eq : val_main_v183 (F := Ideal) x2 = val_main_v20 (F := Ideal) x2 := rfl
/-- The words that index the sums are those that index the first coordinates. -/
theorem v195_eq : val_main_v195 (F := Ideal) x2 = val_main_v20 (F := Ideal) x2 := rfl
/-- The words that index the keys are those that index the second coordinates. -/
theorem v50_eq : val_main_v50 (F := Ideal) x2 = val_main_v27 (F := Ideal) x2 := rfl
/-- The words that index the values are those that index the second coordinates. -/
theorem v204_eq : val_main_v204 (F := Ideal) x2 = val_main_v27 (F := Ideal) x2 := rfl

/-! ## The bins and the tables' rows -/

section
variable {A x2}
variable (h0 : ∀ p, (x2 : IVec S2x500000 32) (ix2 (0 : Fin 2) p) = BitVec.ofNat 32 (A.f0 p).val)
  (h1 : ∀ p, (x2 : IVec S2x500000 32) (ix2 (1 : Fin 2) p) = BitVec.ofNat 32 (A.f1 p).val)
include h0 h1

/-- The coordinate differences at a pair. -/
theorem v29_at (p : Fin 500000) (a : Fin 3) :
    (val_main_v29 (F := Ideal) A.co x2 : S500000x3.Idx → EReal) (ix2 p a) = A.dist p a := by
  have e0 : (val_main_v21 (F := Ideal) A.co x2 : S500000x3.Idx → EReal) (ix2 p a) = A.co (ix2 (A.f0 p) a) :=
    gather_rows2 _ rfl rfl rfl rfl rfl _ _ p a (A.f0 p) (v20_at h0 p) (by norm_num)
  have e1 : (val_main_v28 (F := Ideal) A.co x2 : S500000x3.Idx → EReal) (ix2 p a) = A.co (ix2 (A.f1 p) a) :=
    gather_rows2 _ rfl rfl rfl rfl rfl _ _ p a (A.f1 p) (v27_at h1 p) (by norm_num)
  pointwise [val_main_v29]
  rw [e0, e1]
  rfl

/-- The bin words at a pair. -/
theorem v35_at (p : Fin 500000) (a : Fin 3) :
    (val_main_v35 (F := Ideal) A.co x2 : IVec S500000x3 32) (ix2 p a) = bw (A.dist p a) := by
  pointwise [val_main_v35, val_main_v34, val_main_v33, val_main_v32, val_main_v31, val_main_v30, val_main_call0_v0,
    val_main_call0_v1, val_main_call0_v2, val_main_call0_v3, val_main_call0_v4, val_main_cst, val_main_cst_3, val_main_c_4,
    val_main_c_5]
  rw [v29_at h0 h1 p a]
  rfl

/-- A bin word along the first axis, which is not negative, is not wrapped. -/
theorem v61_at (p : Fin 500000) :
    (val_main_v61 (F := Ideal) A.co x2 : IVec S500000x1 32) (ix2 p (0 : Fin 1)) = BitVec.ofNat 32 (bn (A.dist p 0)).val := by
  pointwise [val_main_v61, val_main_v60, val_main_v59, val_main_v58, val_main_v57, val_main_v56, val_main_v55, val_main_v54,
    val_main_c_11, val_main_c_12]
  rw [v35_at h0 h1 p 0, Routing.wrap_of_lt _ _ (by have := bw_lt (A.dist p 0); omega), bw_eq]

/-- A bin word along the second axis, which is not negative, is not wrapped. -/
theorem v72_at (p : Fin 500000) :
    (val_main_v72 (F := Ideal) A.co x2 : IVec S500000x1 32) (ix2 p (0 : Fin 1)) = BitVec.ofNat 32 (bn (A.dist p 1)).val := by
  pointwise [val_main_v72, val_main_v71, val_main_v70, val_main_v69, val_main_v68, val_main_v67, val_main_v66, val_main_v65,
    val_main_c_13, val_main_c_14]
  rw [v35_at h0 h1 p 1, Routing.wrap_of_lt _ _ (by have := bw_lt (A.dist p 1); omega), bw_eq]

/-- A bin word along the third axis, which is not negative, is not wrapped. -/
theorem v84_at (p : Fin 500000) :
    (val_main_v84 (F := Ideal) A.co x2 : IVec S500000x1 32) (ix2 p (0 : Fin 1)) = BitVec.ofNat 32 (bn (A.dist p 2)).val := by
  pointwise [val_main_v84, val_main_v83, val_main_v82, val_main_v81, val_main_v80, val_main_v79, val_main_v78, val_main_v77,
    val_main_c_15, val_main_c_16]
  rw [v35_at h0 h1 p 2, Routing.wrap_of_lt _ _ (by have := bw_lt (A.dist p 2); omega), bw_eq]

/-- The rows taken of a table along the first axis. -/
theorem v62_at (T : (⟨4, ![3, 32, 6, 16]⟩ : Shape).Idx → EReal) (p : Fin 500000) (h : Fin 6) (d : Fin 16) :
    (val_main_v62 (F := Ideal) A.co x2 T : S500000x6x16.Idx → EReal) (ix3 p h d) = T (ix4 (0 : Fin 3) (bn (A.dist p 0)) h d) := by
  refine (gather_rows3 gather_S32x6x16_S500000x1_S500000x6x16_12_0_n_n_0_1_1616_wf _ _ p h d (bn (A.dist p 0))
    (v61_at h0 h1 p) (by norm_num)).trans ?_
  pointwise [val_main_v53, val_main_v52]

/-- The rows taken of a table along the second axis. -/
theorem v73_at (T : (⟨4, ![3, 32, 6, 16]⟩ : Shape).Idx → EReal) (p : Fin 500000) (h : Fin 6) (d : Fin 16) :
    (val_main_v73 (F := Ideal) A.co x2 T : S500000x6x16.Idx → EReal) (ix3 p h d) = T (ix4 (1 : Fin 3) (bn (A.dist p 1)) h d) := by
  refine (gather_rows3 gather_S32x6x16_S500000x1_S500000x6x16_12_0_n_n_0_1_1616_wf _ _ p h d (bn (A.dist p 1))
    (v72_at h0 h1 p) (by norm_num)).trans ?_
  pointwise [val_main_v64, val_main_v63]

/-- The rows taken of a table along the third axis. -/
theorem v85_at (T : (⟨4, ![3, 32, 6, 16]⟩ : Shape).Idx → EReal) (p : Fin 500000) (h : Fin 6) (d : Fin 16) :
    (val_main_v85 (F := Ideal) A.co x2 T : S500000x6x16.Idx → EReal) (ix3 p h d) = T (ix4 (2 : Fin 3) (bn (A.dist p 2)) h d) := by
  refine (gather_rows3 gather_S32x6x16_S500000x1_S500000x6x16_12_0_n_n_0_1_1616_wf _ _ p h d (bn (A.dist p 2))
    (v84_at h0 h1 p) (by norm_num)).trans ?_
  pointwise [val_main_v76, val_main_v75]

/-- The three rows taken of a table, summed. -/
theorem v86_at (T : (⟨4, ![3, 32, 6, 16]⟩ : Shape).Idx → EReal) (p : Fin 500000) (h : Fin 6) (d : Fin 16) :
    (val_main_v86 (F := Ideal) A.co x2 T : S500000x6x16.Idx → EReal) (ix3 p h d) = A.row T p h d := by
  pointwise [val_main_v86, val_main_v74]
  rw [v62_at h0 h1 T p h d, v73_at h0 h1 T p h d, v85_at h0 h1 T p h d]
  rfl

end

/-- The key table's rows are the function the query table's are. -/
theorem v121_eq : val_main_v121 (F := Ideal) A.co x2 A.tk = val_main_v86 (F := Ideal) A.co x2 A.tk := rfl
/-- The value table's rows are the function the query table's are. -/
theorem v156_eq : val_main_v156 (F := Ideal) A.co x2 A.tv = val_main_v86 (F := Ideal) A.co x2 A.tv := rfl

/-! ## The logits -/

section
variable {A x2}
variable (h0 : ∀ p, (x2 : IVec S2x500000 32) (ix2 (0 : Fin 2) p) = BitVec.ofNat 32 (A.f0 p).val)
  (h1 : ∀ p, (x2 : IVec S2x500000 32) (ix2 (1 : Fin 2) p) = BitVec.ofNat 32 (A.f1 p).val)
include h0 h1

/-- The scaled queries taken at the first nodes. -/
theorem v44_at (p : Fin 500000) (h : Fin 6) (d : Fin 16) :
    (val_main_v44 (F := Ideal) A.x x2 A.w A.b : S500000x6x16.Idx → EReal) (ix3 p h d)
      = A.q (A.f0 p) h d * Ideal.ofBits .f32 0x3E800000#32 := by
  have e : (val_main_v42 (F := Ideal) A.x x2 A.w A.b : S500000x6x16.Idx → EReal) (ix3 p h d) = A.q (A.f0 p) h d :=
    (gather_rows3 gather_S50000x6x16_S500000x1_S500000x6x16_12_0_n_n_0_1_1616_wf _ _ p h d (A.f0 p)
      (v20_at h0 p) (by norm_num)).trans (v6_at A _ h d)
  pointwise [val_main_v44, val_main_v43, val_main_cst_8]
  rw [e]

/-- The keys taken at the second nodes. -/
theorem v51_at (p : Fin 500000) (h : Fin 6) (d : Fin 16) :
    (val_main_v51 (F := Ideal) A.x x2 A.w A.b : S500000x6x16.Idx → EReal) (ix3 p h d) = A.k (A.f1 p) h d :=
  (gather_rows3 gather_S50000x6x16_S500000x1_S500000x6x16_12_0_n_n_0_1_1616_wf _ _ p h d (A.f1 p)
    (v27_at h1 p) (by norm_num)).trans (v8_at A _ h d)

/-- The values taken at the second nodes. -/
theorem v205_at (p : Fin 500000) (h : Fin 6) (d : Fin 16) :
    (val_main_v205 (F := Ideal) A.x x2 A.w A.b : S500000x6x16.Idx → EReal) (ix3 p h d) = A.v (A.f1 p) h d :=
  (gather_rows3 gather_S50000x6x16_S500000x1_S500000x6x16_12_0_n_n_0_1_1616_wf _ _ p h d (A.f1 p)
    (v27_at h1 p) (by norm_num)).trans (v10_at A _ h d)

/-- A pair's logit as the reference sums it. -/
theorem v164_at (p : Fin 500000) (h : Fin 6) :
    (val_main_v164 (F := Ideal) A.x A.co x2 A.w A.b A.tq A.tk : S500000x6.Idx → EReal) (ix2 p h)
      = (∑ d : Fin 16, A.q (A.f0 p) h d * Ideal.ofBits .f32 0x3E800000#32 * A.k (A.f1 p) h d)
        + (∑ d : Fin 16, A.q (A.f0 p) h d * Ideal.ofBits .f32 0x3E800000#32 * A.row A.tk p h d)
        + ∑ d : Fin 16, A.k (A.f1 p) h d * A.row A.tq p h d := by
  pointwise [val_main_v164, val_main_v163, val_main_v162, val_main_v161, val_main_v160, val_main_v159, val_main_v158,
    val_main_v157, val_main_cst_29, val_main_cst_30, val_main_cst_31]
  have e (T : (⟨4, ![3, 32, 6, 16]⟩ : Shape).Idx → EReal) := fun d => v86_at h0 h1 T p h d
  simp only [v121_eq, v44_at h0 h1, v51_at h0 h1, e]

end

end Cert.ReferenceIdeal.Out

end
-- ==== Proof.Tame.lean ====
/- Where the logits' arguments are real numbers, so are the logits, and the reference's sums are the kernel's. -/
module

public import proofs.«01_k».proof.Proof.Spec
public import proofs.«01_k».proof.Pre_tame
public import Idealize.ShloMosaic.Lib.Affine

@[expose] public section

set_option maxRecDepth 16384

noncomputable section

namespace Cert.Seg

open Idealize.ShloMosaic

/-! ## Real numbers among the extended ones -/

/-- The extended real `x` is a real number. -/
def IsReal (x : EReal) : Prop := ∃ r : ℝ, x = (r : EReal)

/-- A sum of two real numbers is one. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A product of two real numbers is one. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- A finite sum of real numbers is one. -/
theorem IsReal.sum {ι : Type*} {s : Finset ι} {f : ι → EReal} (hf : ∀ i, IsReal (f i)) : IsReal (∑ i ∈ s, f i) := by
  choose g hg using hf
  exact ⟨∑ i ∈ s, g i, by simp only [hg, sum_coe]⟩

/-- The pattern of infinity denotes infinity. -/
theorem inf_bits : Ideal.ofBits .f32 0x7F800000#32 = ⊤ := by simp [Ideal.ofBits, Ideal.ieee]

/-- The query's scale is a real number. -/
theorem scale_real : IsReal (Ideal.ofBits .f32 0x3E800000#32) := by
  exact ⟨1 / 4, by simp [Ideal.ofBits, Ideal.ieee, -EReal.coe_mul]; norm_num⟩

/-- A value whose absolute value compares below infinity is a real number. -/
theorem real_of_abs (x : EReal) (h : Ideal.cmp .olt (max x (-x)) (Ideal.ofBits .f32 0x7F800000#32) = 1#1) : IsReal x := by
  rw [inf_bits] at h
  induction x with
  | bot => simp [Ideal.cmp] at h
  | top => simp [Ideal.cmp] at h
  | coe r => exact ⟨r, rfl⟩

/-- A value that is itself where its absolute value is below infinity, and zero elsewhere, is a real number. -/
theorem real_select (x : EReal) :
    IsReal (Scalar.select (Ideal.cmp .olt (max x (-x)) (Ideal.ofBits .f32 0x7F800000#32)) x (0 : EReal)) := by
  by_cases h : Ideal.cmp .olt (max x (-x)) (Ideal.ofBits .f32 0x7F800000#32) = 1#1
  · rw [Scalar.select, h]; exact real_of_abs x h
  · rw [Scalar.select, if_neg (by simpa using h)]; exact ⟨0, rfl⟩

/-- The arguments that enter the logits are real numbers. -/
structure In.Tame (A : In) : Prop where
  x : ∀ n k, IsReal (A.x (ix2 n k))
  w : ∀ k (j : Fin 288), j.val < 192 → IsReal (A.w (ix2 k j))
  b : ∀ j : Fin 288, j.val < 192 → IsReal (A.b (ix1 j))
  tq : ∀ a r h d, IsReal (A.tq (ix4 a r h d))
  tk : ∀ a r h d, IsReal (A.tk (ix4 a r h d))

namespace In

variable {A : In} (hA : A.Tame)
include hA

/-- Queries and keys are real numbers. -/
theorem qkv_real (n : Fin 50000) (j : Fin 288) (hj : j.val < 192) : IsReal (A.qkv n j) :=
  (IsReal.sum fun k => (hA.x n k).mul (hA.w k j hj)).add (hA.b j hj)

/-- A query is a real number. -/
theorem q_real (n : Fin 50000) (h : Fin 6) (d : Fin 16) : IsReal (A.q n h d) :=
  qkv_real hA n _ (by show (fl h d).val < 192; omega)

/-- A key is a real number. -/
theorem k_real (n : Fin 50000) (h : Fin 6) (d : Fin 16) : IsReal (A.k n h d) :=
  qkv_real hA n _ (by show 96 + (fl h d).val < 192; omega)

/-- The query table's rows at a pair sum to a real number. -/
theorem rowq_real (p : Fin 500000) (h : Fin 6) (d : Fin 16) : IsReal (A.row A.tq p h d) :=
  ((hA.tq _ _ _ _).add (hA.tq _ _ _ _)).add (hA.tq _ _ _ _)

/-- The key table's rows at a pair sum to a real number. -/
theorem rowk_real (p : Fin 500000) (h : Fin 6) (d : Fin 16) : IsReal (A.row A.tk p h d) :=
  ((hA.tk _ _ _ _).add (hA.tk _ _ _ _)).add (hA.tk _ _ _ _)

/-- A logit is a real number. -/
theorem logit_real (p : Fin 500000) (h : Fin 6) : IsReal (A.logit p h) :=
  IsReal.sum fun d => (((q_real hA _ _ _).mul scale_real).mul ((k_real hA _ _ _).add (rowk_real hA _ _ _))).add
    ((k_real hA _ _ _).mul (rowq_real hA _ _ _))

/-- The three sums a logit is written as add up to it. -/
theorem logit_sums (p : Fin 500000) (h : Fin 6) :
    (∑ d : Fin 16, A.q (A.f0 p) h d * Ideal.ofBits .f32 0x3E800000#32 * A.k (A.f1 p) h d)
        + (∑ d : Fin 16, A.q (A.f0 p) h d * Ideal.ofBits .f32 0x3E800000#32 * A.row A.tk p h d)
        + ∑ d : Fin 16, A.k (A.f1 p) h d * A.row A.tq p h d = A.logit p h := by
  rw [← Finset.sum_add_distrib, ← Finset.sum_add_distrib]
  refine Finset.sum_congr rfl fun d _ => ?_
  obtain ⟨s, hs⟩ := (q_real hA (A.f0 p) h d).mul scale_real
  obtain ⟨k, hk⟩ := k_real hA (A.f1 p) h d
  obtain ⟨r, hr⟩ := rowk_real hA p h d
  rw [hs, hk, hr, ← EReal.coe_mul, ← EReal.coe_mul, ← EReal.coe_add, ← EReal.coe_add, ← EReal.coe_mul, mul_add]

end In

/-! ## The precondition -/

/-- The side conditions of the precondition's operations. -/
instance pre_facts : Cert.Pre_tame.Facts where
  bcast_S_S2x500000 := by decide
  bcast_S_S50000x96 := by decide
  slices_S96x288_S96x192_0_0 := by decide
  bcast_S_S96x192 := by decide
  slices_S288_S192_0 := by decide
  bcast_S_S192 := by decide
  bcast_S_S3x32x6x16 := by decide

/-- A word from zero up to 50000 holds the number of a node. -/
theorem node_of_word (w : BitVec 32)
    (h : IntOp.andi (IntOp.cmpi .sge w 0#32) (IntOp.cmpi .slt w 50000#32) = 1#1) :
    ∃ n : Fin 50000, w = BitVec.ofNat 32 n.val := by
  have h12 : IntOp.cmpi .sge w 0#32 = 1#1 ∧ IntOp.cmpi .slt w 50000#32 = 1#1 := by
    revert h
    generalize IntOp.cmpi .sge w 0#32 = a
    generalize IntOp.cmpi .slt w 50000#32 = b
    revert a b; decide
  have h1 := IntOp.cmpi_sge.1 h12.1
  have h2 := IntOp.cmpi_slt.1 h12.2
  rw [show (0#32 : BitVec 32).toInt = 0 from by decide] at h1
  rw [show (50000#32 : BitVec 32).toInt = 50000 from by decide] at h2
  have hw := w.isLt
  have h3 : w.toNat < 50000 := by rw [BitVec.toInt_eq_toNat_cond] at h1 h2; split at h1 <;> omega
  exact ⟨⟨w.toNat, h3⟩, by simp⟩

end Cert.Seg

end
-- ==== Proof.RefOut.lean ====
/- The reference's result is the attention of its arguments, where the logits' arguments are real numbers. -/
module

public import proofs.«01_k».proof.Proof.Ref
public import proofs.«01_k».proof.Proof.Tame

@[expose] public section

set_option maxRecDepth 16384

noncomputable section

namespace Cert.ReferenceIdeal.Out

open Cert.ReferenceIdeal.Gen Cert.ReferenceIdeal.Read Cert.Seg
open Idealize.ShloMosaic Idealize.ShloMosaic.TcCoe

variable {A : In} {x2 : (⟨S2x500000, .i32⟩ : BufTy).Contents (Elt Ideal)}

/-- A vector's values where they are below infinity in absolute value, zero elsewhere: real numbers. -/
theorem finite_real (M : FVec Ideal S50000x6 .f32) (n : Fin 50000) (h : Fin 6) :
    IsReal ((select (cmpf .olt (Host.absf M) (val_main_v175 (F := Ideal))) M (val_main_call2_v1 (F := Ideal)) : FVec Ideal S50000x6 .f32)
      (ix2 n h)) := by
  have e : (val_main_call2_v1 (F := Ideal) : S50000x6.Idx → EReal) (ix2 n h) = 0 := by
    pointwise [val_main_call2_v1, val_main_call2_v0, val_main_cst_35]
    exact Ideal.ofBits_zero_f32
  have e' : (val_main_v175 (F := Ideal) : S50000x6.Idx → EReal) (ix2 n h) = Ideal.ofBits .f32 0x7F800000#32 := by
    pointwise [val_main_v175, val_main_cst_34]
  have key := real_select (M (ix2 n h))
  rw [← e', ← e] at key
  exact key

/-- What the reference subtracts from the logits of a node's pairs is a real number. -/
theorem v177_real (n : Fin 50000) (h : Fin 6) :
    IsReal ((val_main_v177 (F := Ideal) A.x A.co x2 A.w A.b A.tq A.tk : S50000x6.Idx → EReal) (ix2 n h)) :=
  finite_real (val_main_v173 (F := Ideal) A.x A.co x2 A.w A.b A.tq A.tk) n h

variable (h0 : ∀ p, (x2 : IVec S2x500000 32) (ix2 (0 : Fin 2) p) = BitVec.ofNat 32 (A.f0 p).val)
  (h1 : ∀ p, (x2 : IVec S2x500000 32) (ix2 (1 : Fin 2) p) = BitVec.ofNat 32 (A.f1 p).val)
include h0

/-- What is subtracted from a pair's logit is its first node's. -/
theorem v184_at (p : Fin 500000) (h : Fin 6) :
    (val_main_v184 (F := Ideal) A.x A.co x2 A.w A.b A.tq A.tk : S500000x6.Idx → EReal) (ix2 p h)
      = (val_main_v177 (F := Ideal) A.x A.co x2 A.w A.b A.tq A.tk : S50000x6.Idx → EReal) (ix2 (A.f0 p) h) :=
  gather_rows2 _ rfl rfl rfl rfl rfl _ _ p h (A.f0 p) (v20_at h0 p) (by norm_num)

/-- What a pair's exponential is divided by is its first node's sum. -/
theorem v196_at (p : Fin 500000) (h : Fin 6) :
    (val_main_v196 (F := Ideal) A.x A.co x2 A.w A.b A.tq A.tk : S500000x6.Idx → EReal) (ix2 p h)
      = (val_main_v189 (F := Ideal) A.x A.co x2 A.w A.b A.tq A.tk : S50000x6.Idx → EReal) (ix2 (A.f0 p) h) :=
  gather_rows2 _ rfl rfl rfl rfl rfl _ _ p h (A.f0 p) (v20_at h0 p) (by norm_num)

/-- A node's sum of exponentials is over the pairs whose first node it is. -/
theorem v189_at (n : Fin 50000) (h : Fin 6) :
    (val_main_v189 (F := Ideal) A.x A.co x2 A.w A.b A.tq A.tk : S50000x6.Idx → EReal) (ix2 n h)
      = ∑ p ∈ Finset.univ.filter (fun p => A.f0 p = n),
        (val_main_v186 (F := Ideal) A.x A.co x2 A.w A.b A.tq A.tk : S500000x6.Idx → EReal) (ix2 p h) := by
  refine (scatter_into2 scatter_S50000x6_S500000x1_S500000x6_1_0_0_1_wf _ _ _ A.f0 (fun p => ?_) (by norm_num) n h).trans ?_
  · pointwise [val_main_v188]
    exact v12_at h0 p
  · pointwise [val_main_v187, val_main_cst_38]

/-- A node's output is the sum over the pairs whose first node it is. -/
theorem v211_at (n : Fin 50000) (h : Fin 6) (d : Fin 16) :
    (val_main_v211 (F := Ideal) A.x A.co x2 A.w A.b A.tq A.tk A.tv : S50000x6x16.Idx → EReal) (ix3 n h d)
      = ∑ p ∈ Finset.univ.filter (fun p => A.f0 p = n),
        (val_main_v208 (F := Ideal) A.x A.co x2 A.w A.b A.tq A.tk A.tv : S500000x6x16.Idx → EReal) (ix3 p h d) := by
  refine (scatter_into3 scatter_S50000x6x16_S500000x1_S500000x6x16_12_0_0_1_wf _ _ _ A.f0 (fun p => ?_) (by norm_num) n h d).trans ?_
  · pointwise [val_main_v210]
    exact v12_at h0 p
  · pointwise [val_main_v209, val_main_cst_43]

include h1

/-- A pair's term in the reference's sum over a node's pairs: its weight times its value. -/
theorem v208_at (p : Fin 500000) (h : Fin 6) (d : Fin 16) :
    (val_main_v208 (F := Ideal) A.x A.co x2 A.w A.b A.tq A.tk A.tv : S500000x6x16.Idx → EReal) (ix3 p h d)
      = Ideal.div ((val_main_v186 (F := Ideal) A.x A.co x2 A.w A.b A.tq A.tk : S500000x6.Idx → EReal) (ix2 p h))
          ((val_main_v189 (F := Ideal) A.x A.co x2 A.w A.b A.tq A.tk : S50000x6.Idx → EReal) (ix2 (A.f0 p) h))
        * A.val p h d := by
  pointwise [val_main_v208, val_main_v207, val_main_v206, val_main_v198, val_main_v197]
  rw [v196_at h0 p h, v205_at h0 h1 p h d, v156_eq, v86_at h0 h1 A.tv p h d]
  rfl

variable (hA : A.Tame)
include hA

/-- The exponential the reference sums for a pair. -/
theorem v186_at (p : Fin 500000) (h : Fin 6) :
    (val_main_v186 (F := Ideal) A.x A.co x2 A.w A.b A.tq A.tk : S500000x6.Idx → EReal) (ix2 p h)
      = Ideal.exp (A.logit p h
        - (val_main_v177 (F := Ideal) A.x A.co x2 A.w A.b A.tq A.tk : S50000x6.Idx → EReal) (ix2 (A.f0 p) h)) := by
  pointwise [val_main_v186, val_main_v185]
  rw [v184_at h0 p h, v164_at h0 h1 p h, A.logit_sums hA p h]

/-- A node's output at head `h`, as the reference computes it. -/
theorem head_at (n : Fin 50000) (h : Fin 6) (d : Fin 16) :
    (val_main_v211 (F := Ideal) A.x A.co x2 A.w A.b A.tq A.tk A.tv : S50000x6x16.Idx → EReal) (ix3 n h d) = A.head n h d := by
  rw [v211_at h0 n h d]
  obtain ⟨μ, hμ⟩ := v177_real (A := A) (x2 := x2) n h
  choose r hr using fun p => A.logit_real hA p h
  have e (p : Fin 500000) (hp : A.f0 p = n) :
      (val_main_v186 (F := Ideal) A.x A.co x2 A.w A.b A.tq A.tk : S500000x6.Idx → EReal) (ix2 p h)
        = Ideal.exp (((r p : ℝ) : EReal) - (μ : EReal)) := by
    rw [v186_at h0 h1 hA p h, hp, hμ, hr]
  have es : (val_main_v189 (F := Ideal) A.x A.co x2 A.w A.b A.tq A.tk : S50000x6.Idx → EReal) (ix2 n h)
      = ∑ p ∈ Finset.univ.filter (fun p => A.f0 p = n), Ideal.exp (((r p : ℝ) : EReal) - (μ : EReal)) := by
    rw [v189_at h0 n h]
    exact Finset.sum_congr rfl fun p hp => e p (Finset.mem_filter.1 hp).2
  have key := softmax_shift (Finset.univ.filter (fun p => A.f0 p = n)) r μ (fun p => A.val p h d)
    (if 0 < A.den n h then A.den n h else 1) (fun hs => ?_)
  · refine (Finset.sum_congr rfl fun p hp => ?_).trans (key.trans ?_)
    · have hp' := (Finset.mem_filter.1 hp).2
      rw [v208_at h0 h1 p h d, e p hp', hp', es]
    · simp only [In.head, hr]
  · have hd : A.den n h = ∑ m ∈ Finset.univ.filter (fun p => A.f0 p = n), Ideal.exp ((r m : ℝ) : EReal) := by
      simp only [In.den, hr]
    rw [← hd, if_pos]
    rw [hd]
    simp only [Ideal.exp_coe, sum_coe]
    exact_mod_cast Finset.sum_pos (fun m _ => Real.exp_pos _) hs

/-- The reference's result is the attention of its arguments. -/
theorem result (n : Fin 50000) (j : Fin 96) :
    (val_main_v216 (F := Ideal) A.x A.co x2 A.w A.b A.tq A.tk A.tv A.wo A.bo : S50000x96.Idx → EReal) (ix2 n j) = A.out n j := by
  pointwise [val_main_v216, val_main_v215, val_main_v214, val_main_v213, val_main_v212]
  refine congrArg (· + A.bo (ix1 j)) ((sum_fl _).trans (Finset.sum_congr rfl fun h _ => Finset.sum_congr rfl fun d _ => ?_))
  refine congrArg (· * A.wo (ix2 (fl h d) j)) ((congrArg _ ?_).trans (head_at h0 h1 hA n h d))
  exact congrArg₂ (ix3 n) (Fin.ext (by show (16 * h.val + d.val) / 16 = h.val; omega))
    (Fin.ext (by show (16 * h.val + d.val) % 16 = d.val; omega))

end Cert.ReferenceIdeal.Out

end
-- ==== Proof.Final.lean ====
/- Both programs' results are the attention of the arguments the precondition admits. -/
module

public import proofs.«01_k».proof.Defs
public import proofs.«01_k».proof.Proof.Run
public import proofs.«01_k».proof.Proof.Host
public import proofs.«01_k».proof.Proof.RefOut

@[expose] public section

set_option maxRecDepth 16384

noncomputable section

namespace Cert.Final

open Cert.Seg
open Idealize.ShloMosaic Idealize.ShloMosaic.TcCoe Idealize.ShloMosaic.StableHlo Idealize.SL.Sem

section
variable (m : (ℓ : Loc Cert.KernelIdeal.nD Cert.KernelIdeal.τ Cert.KernelIdeal.sig) → Buf (Elt Ideal) ℓ)
  (hp : Cert.Pre_KernelIdeal_tame m) (c : Dev Cert.KernelIdeal.nD)
include hp

/-- Every word of the pairs holds the number of a node. -/
theorem node (s : Fin 2) (p : Fin 500000) : ∃ n : Fin 50000,
    (m ((c : Thread Cert.KernelIdeal.nD Cert.KernelIdeal.τ).loc Cert.KernelIdeal.main_arg2) : IVec ⟨2, ![2, 500000]⟩ 32) (ix2 s p)
      = BitVec.ofNat 32 n.val :=
  node_of_word _ (congrFun (hp c).1 (ix2 s p))

/-- The arguments that enter the logits are real numbers. -/
theorem tame (f0 f1 : Fin 500000 → Fin 50000) : (Cert.KernelIdeal.Out.args m c f0 f1).Tame where
  x n k := real_of_abs _ (congrFun (hp c).2.1 (ix2 n k))
  w k j hj := by
    have e : (extractStridedSlice Cert.Pre_tame.S96x192 ![0, 0] (Cert.KernelIdeal.Out.args m c f0 f1).w
        Cert.Pre_tame.Facts.slices_S96x288_S96x192_0_0) (ix2 k (⟨j.val, hj⟩ : Fin 192))
        = (Cert.KernelIdeal.Out.args m c f0 f1).w (ix2 k j) := by
      pointwise
    exact e ▸ real_of_abs _ (congrFun (hp c).2.2.1 (ix2 k (⟨j.val, hj⟩ : Fin 192)))
  b j hj := by
    have e : (extractStridedSlice Cert.Pre_tame.S192 ![0] (Cert.KernelIdeal.Out.args m c f0 f1).b
        Cert.Pre_tame.Facts.slices_S288_S192_0) (ix1 (⟨j.val, hj⟩ : Fin 192)) = (Cert.KernelIdeal.Out.args m c f0 f1).b (ix1 j) := by
      pointwise
    exact e ▸ real_of_abs _ (congrFun (hp c).2.2.2.1 (ix1 (⟨j.val, hj⟩ : Fin 192)))
  tq a r h d := real_of_abs _ (congrFun (hp c).2.2.2.2.1 (ix4 a r h d))
  tk a r h d := real_of_abs _ (congrFun (hp c).2.2.2.2.2 (ix4 a r h d))

/-- The two results are one array: the reference's value of the launched arguments, and what the kernel's run leaves. -/
theorem agree (ρ : Dev Cert.KernelIdeal.nD → PrngReg) (n : Fin 50000) (j : Fin 96) :
    (Cert.ReferenceIdeal.Read.val_main_v216 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
        (m ((c : Thread Cert.KernelIdeal.nD Cert.KernelIdeal.τ).loc Cert.KernelIdeal.main_arg9))
        : (⟨2, ![50000, 96]⟩ : Shape).Idx → EReal) (ix2 n j)
      = (Cert.KernelIdeal.Gen.W14 m ρ c (Proc.devRef .tc Cert.KernelIdeal.main_v35) : (⟨2, ![50000, 96]⟩ : Shape).Idx → EReal)
        (ix2 n j) := by
  choose f0 h0 using fun p => node m hp c 0 p
  choose f1 h1 using fun p => node m hp c 1 p
  exact (Cert.ReferenceIdeal.Out.result (A := Cert.KernelIdeal.Out.args m c f0 f1) h0 h1 (tame m hp c f0 f1) n j).trans
    (Cert.KernelIdeal.Out.result m ρ c h0 h1 n j).symm

end

/-- At the extended reals, from equal arguments the precondition admits, the kernel and the reference end with equal results
    and unchanged arguments. -/
theorem algebraic : Cert.algebraic_KernelIdeal_ReferenceIdeal_pre_tame := by
  intro m ρ m' ρ' hp hagree
  refine ⟨fun c => Cert.KernelIdeal.Gen.W14 m ρ c (Proc.devRef .tc Cert.KernelIdeal.main_v35), Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  refine (Cert.ReferenceIdeal.Read.val_main_v216_eq (F := Ideal) (launchContents m' c)).trans ?_
  have k0 : launchContents m' c (Proc.devRef .tc Cert.ReferenceIdeal.main_arg0) = _ := e0
  have k1 : launchContents m' c (Proc.devRef .tc Cert.ReferenceIdeal.main_arg1) = _ := e1
  have k2 : launchContents m' c (Proc.devRef .tc Cert.ReferenceIdeal.main_arg2) = _ := e2
  have k3 : launchContents m' c (Proc.devRef .tc Cert.ReferenceIdeal.main_arg3) = _ := e3
  have k4 : launchContents m' c (Proc.devRef .tc Cert.ReferenceIdeal.main_arg4) = _ := e4
  have k5 : launchContents m' c (Proc.devRef .tc Cert.ReferenceIdeal.main_arg5) = _ := e5
  have k6 : launchContents m' c (Proc.devRef .tc Cert.ReferenceIdeal.main_arg6) = _ := e6
  have k7 : launchContents m' c (Proc.devRef .tc Cert.ReferenceIdeal.main_arg7) = _ := e7
  have k8 : launchContents m' c (Proc.devRef .tc Cert.ReferenceIdeal.main_arg8) = _ := e8
  have k9 : launchContents m' c (Proc.devRef .tc Cert.ReferenceIdeal.main_arg9) = _ := e9
  rw [k0, k1, k2, k3, k4, k5, k6, k7, k8, k9]
  funext z
  obtain ⟨n, j, rfl⟩ : ∃ (n : Fin 50000) (j : Fin 96), z = ix2 n j := ⟨z 0, z 1, eq_ix2 z⟩
  exact agree m hp c ρ n j

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference declares no semaphore, and its run leaves its arguments as launched. -/
theorem frame_r : Cert.quiescent_ReferenceIdeal (hReferenceIdeal := Cert.ReferenceIdeal.Gen.facts) := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- Every claim. -/
theorem claim : Cert.Claim :=
  ⟨Cert.Kernel.Gen.facts, Cert.KernelIdeal.Gen.facts, Cert.ReferenceIdeal.Gen.facts, Cert.Seg.pre_facts,
   fun m ρ _ => Cert.Kernel.Gen.frame m ρ,
   fun m ρ _ => Cert.KernelIdeal.Gen.frame m ρ,
   fun m ρ _ => Cert.KernelIdeal.Gen.frame m ρ,
   frame_r,
   fun m ρ _ => frame_r m ρ trivial,
   trivial,
   Cert.Final.algebraic⟩

end Cert.Proof

end
